-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routing_finite [hPre_routing_finite : Cert.Pre_routing_finite.Facts] (m : (ℓ : Loc Cert.KernelIdeal.nD Cert.KernelIdeal.τ Cert.KernelIdeal.sig) → Buf (Elt Ideal) ℓ) : Prop :=
  ∀ c : Dev Cert.KernelIdeal.nD,
    (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routing_finite [hPre_routing_finite : Cert.Pre_routing_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_routing_finite [hKernelIdeal : Cert.KernelIdeal.Facts] [hPre_routing_finite : Cert.Pre_routing_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routing_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_routing_finite [hReferenceIdeal : Cert.ReferenceIdeal.Facts] [hPre_routing_finite : Cert.Pre_routing_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routing_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_routing_finite [hKernelIdeal : Cert.KernelIdeal.Facts] [hReferenceIdeal : Cert.ReferenceIdeal.Facts] [hPre_routing_finite : Cert.Pre_routing_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routing_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_routing_finite : Cert.Pre_routing_finite.Facts),
    quiescent_Kernel (hKernel := hKernel)
    ∧ quiescent_KernelIdeal (hKernelIdeal := hKernelIdeal)
    ∧ quiescent_KernelIdeal_pre_routing_finite (hKernelIdeal := hKernelIdeal) (hPre_routing_finite := hPre_routing_finite)
    ∧ quiescent_ReferenceIdeal (hReferenceIdeal := hReferenceIdeal)
    ∧ quiescent_ReferenceIdeal_pre_routing_finite (hReferenceIdeal := hReferenceIdeal) (hPre_routing_finite := hPre_routing_finite)
    ∧ preserves_Kernel_KernelIdeal
    ∧ algebraic_KernelIdeal_ReferenceIdeal_pre_routing_finite (hKernelIdeal := hKernelIdeal) (hReferenceIdeal := hReferenceIdeal) (hPre_routing_finite := hPre_routing_finite)
-- ==== Pre_routing_finite.lean ====
abbrev S1x224x224x96 : Shape := ⟨4, ![1, 224, 224, 96]⟩
abbrev S96x96x3x3 : Shape := ⟨4, ![96, 96, 3, 3]⟩
abbrev S96 : Shape := ⟨1, ![96]⟩
abbrev S96x96x3 : Shape := ⟨3, ![96, 96, 3]⟩
abbrev S96x5 : Shape := ⟨2, ![96, 5]⟩
abbrev S5 : Shape := ⟨1, ![5]⟩
abbrev S5x96x96 : Shape := ⟨3, ![5, 96, 96]⟩
abbrev S5x96 : Shape := ⟨2, ![5, 96]⟩
abbrev S_ : Shape := ⟨0, ![]⟩

class Facts : Prop where
  bcast_S_S1x224x224x96 : S_.BroadcastsInDim S1x224x224x96 (![] : Fin 0 → Fin S1x224x224x96.rank)
  bcast_S_S96x96x3x3 : S_.BroadcastsInDim S96x96x3x3 (![] : Fin 0 → Fin S96x96x3x3.rank)
  bcast_S_S96 : S_.BroadcastsInDim S96 (![] : Fin 0 → Fin S96.rank)
  bcast_S_S96x96x3 : S_.BroadcastsInDim S96x96x3 (![] : Fin 0 → Fin S96x96x3.rank)
  bcast_S_S96x5 : S_.BroadcastsInDim S96x5 (![] : Fin 0 → Fin S96x5.rank)
  bcast_S_S5 : S_.BroadcastsInDim S5 (![] : Fin 0 → Fin S5.rank)

variable [Facts]

def fn_part2 {F : FTy → Type} [FloatOps F] (main_arg12 : FVec F S5 .f32) (main_v2 : IVec S1x224x224x96 1) (main_v5 : IVec S96x96x3x3 1) (main_v8 : IVec S96 1) (main_v11 : IVec S96x96x3 1) (main_v14 : IVec S96 1) (main_v17 : IVec S96x96x3 1) (main_v20 : IVec S96 1) (main_v23 : IVec S96x96x3x3 1) (main_v26 : IVec S96 1) (main_v29 : IVec S96x96x3x3 1) (main_v32 : IVec S96 1) (main_v35 : IVec S96x5 1) : IVec S1x224x224x96 1 × IVec S96x96x3x3 1 × IVec S96 1 × IVec S96x96x3 1 × IVec S96 1 × IVec S96x96x3 1 × IVec S96 1 × IVec S96x96x3x3 1 × IVec S96 1 × IVec S96x96x3x3 1 × IVec S96 1 × IVec S96x5 1 × IVec S5 1 :=
  let main_v36 : FVec F S5 .f32 := Host.absf main_arg12
  let main_cst_11 : FVec F S_ .f32 := constant S_ .f32 0x7F800000#32
  let main_v37 : FVec F S5 .f32 := broadcastInDim S5 ![] bcast_S_S5 main_cst_11
  let main_v38 : IVec S5 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S96 .f32) (main_arg7 : FVec F S96x96x3x3 .f32) (main_arg8 : FVec F S96 .f32) (main_arg9 : FVec F S96x96x3x3 .f32) (main_arg10 : FVec F S96 .f32) (main_arg11 : FVec F S96x5 .f32) (main_arg12 : FVec F S5 .f32) (main_v2 : IVec S1x224x224x96 1) (main_v5 : IVec S96x96x3x3 1) (main_v8 : IVec S96 1) (main_v11 : IVec S96x96x3 1) (main_v14 : IVec S96 1) (main_v17 : IVec S96x96x3 1) : IVec S1x224x224x96 1 × IVec S96x96x3x3 1 × IVec S96 1 × IVec S96x96x3 1 × IVec S96 1 × IVec S96x96x3 1 × IVec S96 1 × IVec S96x96x3x3 1 × IVec S96 1 × IVec S96x96x3x3 1 × IVec S96 1 × IVec S96x5 1 × IVec S5 1 :=
  let main_v18 : FVec F S96 .f32 := Host.absf main_arg6
  let main_cst_5 : FVec F S_ .f32 := constant S_ .f32 0x7F800000#32
  let main_v19 : FVec F S96 .f32 := broadcastInDim S96 ![] bcast_S_S96 main_cst_5
  let main_v20 : IVec S96 1 := cmpf .olt main_v18 main_v19
  let main_v21 : FVec F S96x96x3x3 .f32 := Host.absf main_arg7
  let main_cst_6 : FVec F S_ .f32 := constant S_ .f32 0x7F800000#32
  let main_v22 : FVec F S96x96x3x3 .f32 := broadcastInDim S96x96x3x3 ![] bcast_S_S96x96x3x3 main_cst_6
  let main_v23 : IVec S96x96x3x3 1 := cmpf .olt main_v21 main_v22
  let main_v24 : FVec F S96 .f32 := Host.absf main_arg8
  let main_cst_7 : FVec F S_ .f32 := constant S_ .f32 0x7F800000#32
  let main_v25 : FVec F S96 .f32 := broadcastInDim S96 ![] bcast_S_S96 main_cst_7
  let main_v26 : IVec S96 1 := cmpf .olt main_v24 main_v25
  let main_v27 : FVec F S96x96x3x3 .f32 := Host.absf main_arg9
  let main_cst_8 : FVec F S_ .f32 := constant S_ .f32 0x7F800000#32
  let main_v28 : FVec F S96x96x3x3 .f32 := broadcastInDim S96x96x3x3 ![] bcast_S_S96x96x3x3 main_cst_8
  let main_v29 : IVec S96x96x3x3 1 := cmpf .olt main_v27 main_v28
  let main_v30 : FVec F S96 .f32 := Host.absf main_arg10
  let main_cst_9 : FVec F S_ .f32 := constant S_ .f32 0x7F800000#32
  let main_v31 : FVec F S96 .f32 := broadcastInDim S96 ![] bcast_S_S96 main_cst_9
  let main_v32 : IVec S96 1 := cmpf .olt main_v30 main_v31
  let main_v33 : FVec F S96x5 .f32 := Host.absf main_arg11
  let main_cst_10 : FVec F S_ .f32 := constant S_ .f32 0x7F800000#32
  let main_v34 : FVec F S96x5 .f32 := broadcastInDim S96x5 ![] bcast_S_S96x5 main_cst_10
  let main_v35 : IVec S96x5 1 := cmpf .olt main_v33 main_v34
  fn_part2 (F := F) main_arg12 main_v2 main_v5 main_v8 main_v11 main_v14 main_v17 main_v20 main_v23 main_v26 main_v29 main_v32 main_v35

def fn {F : FTy → Type} [FloatOps F] (main_arg0 : FVec F S1x224x224x96 .f32) (main_arg1 : FVec F S96x96x3x3 .f32) (main_arg2 : FVec F S96 .f32) (main_arg3 : FVec F S96x96x3 .f32) (main_arg4 : FVec F S96 .f32) (main_arg5 : FVec F S96x96x3 .f32) (main_arg6 : FVec F S96 .f32) (main_arg7 : FVec F S96x96x3x3 .f32) (main_arg8 : FVec F S96 .f32) (main_arg9 : FVec F S96x96x3x3 .f32) (main_arg10 : FVec F S96 .f32) (main_arg11 : FVec F S96x5 .f32) (main_arg12 : FVec F S5 .f32) (main_arg13 : FVec F S5x96x96 .f32) (main_arg14 : FVec F S5x96 .f32) (main_arg15 : FVec F S5x96x96 .f32) (main_arg16 : FVec F S5x96 .f32) : IVec S1x224x224x96 1 × IVec S96x96x3x3 1 × IVec S96 1 × IVec S96x96x3 1 × IVec S96 1 × IVec S96x96x3 1 × IVec S96 1 × IVec S96x96x3x3 1 × IVec S96 1 × IVec S96x96x3x3 1 × IVec S96 1 × IVec S96x5 1 × IVec S5 1 :=
  let main_v0 : FVec F S1x224x224x96 .f32 := Host.absf main_arg0
  let main_cst : FVec F S_ .f32 := constant S_ .f32 0x7F800000#32
  let main_v1 : FVec F S1x224x224x96 .f32 := broadcastInDim S1x224x224x96 ![] bcast_S_S1x224x224x96 main_cst
  let main_v2 : IVec S1x224x224x96 1 := cmpf .olt main_v0 main_v1
  let main_v3 : FVec F S96x96x3x3 .f32 := Host.absf main_arg1
  let main_cst_0 : FVec F S_ .f32 := constant S_ .f32 0x7F800000#32
  let main_v4 : FVec F S96x96x3x3 .f32 := broadcastInDim S96x96x3x3 ![] bcast_S_S96x96x3x3 main_cst_0
  let main_v5 : IVec S96x96x3x3 1 := cmpf .olt main_v3 main_v4
  let main_v6 : FVec F S96 .f32 := Host.absf main_arg2
  let main_cst_1 : FVec F S_ .f32 := constant S_ .f32 0x7F800000#32
  let main_v7 : FVec F S96 .f32 := broadcastInDim S96 ![] bcast_S_S96 main_cst_1
  let main_v8 : IVec S96 1 := cmpf .olt main_v6 main_v7
  let main_v9 : FVec F S96x96x3 .f32 := Host.absf main_arg3
  let main_cst_2 : FVec F S_ .f32 := constant S_ .f32 0x7F800000#32
  let main_v10 : FVec F S96x96x3 .f32 := broadcastInDim S96x96x3 ![] bcast_S_S96x96x3 main_cst_2
  let main_v11 : IVec S96x96x3 1 := cmpf .olt main_v9 main_v10
  let main_v12 : FVec F S96 .f32 := Host.absf main_arg4
  let main_cst_3 : FVec F S_ .f32 := constant S_ .f32 0x7F800000#32
  let main_v13 : FVec F S96 .f32 := broadcastInDim S96 ![] bcast_S_S96 main_cst_3
  let main_v14 : IVec S96 1 := cmpf .olt main_v12 main_v13
  let main_v15 : FVec F S96x96x3 .f32 := Host.absf main_arg5
  let main_cst_4 : FVec F S_ .f32 := constant S_ .f32 0x7F800000#32
  let main_v16 : FVec F S96x96x3 .f32 := broadcastInDim S96x96x3 ![] bcast_S_S96x96x3 main_cst_4
  let main_v17 : IVec S96x96x3 1 := cmpf .olt main_v15 main_v16
  fn_part1 (F := F) main_arg6 main_arg7 main_arg8 main_arg9 main_arg10 main_arg11 main_arg12 main_v2 main_v5 main_v8 main_v11 main_v14 main_v17
-- ==== Kernel.lean ====
abbrev S1x224x224x96 : Shape := ⟨4, ![1, 224, 224, 96]⟩
abbrev S96x96x3x3 : Shape := ⟨4, ![96, 96, 3, 3]⟩
abbrev S96 : Shape := ⟨1, ![96]⟩
abbrev S96x96x3 : Shape := ⟨3, ![96, 96, 3]⟩
abbrev S96x5 : Shape := ⟨2, ![96, 5]⟩
abbrev S5 : Shape := ⟨1, ![5]⟩
abbrev S5x96x96 : Shape := ⟨3, ![5, 96, 96]⟩
abbrev S5x96 : Shape := ⟨2, ![5, 96]⟩
abbrev S96x96x9 : Shape := ⟨3, ![96, 96, 9]⟩
abbrev S9x96x96 : Shape := ⟨3, ![9, 96, 96]⟩
abbrev S3x96x96 : Shape := ⟨3, ![3, 96, 96]⟩
abbrev S1x96 : Shape := ⟨2, ![1, 96]⟩
abbrev S864x96 : Shape := ⟨2, ![864, 96]⟩
abbrev S96x96 : Shape := ⟨2, ![96, 96]⟩
abbrev S1x96x96 : Shape := ⟨3, ![1, 96, 96]⟩
abbrev S224x224x96 : Shape := ⟨3, ![224, 224, 96]⟩
abbrev S_ : Shape := ⟨0, ![]⟩
abbrev S226x226x96 : Shape := ⟨3, ![226, 226, 96]⟩
abbrev S96x5x96 : Shape := ⟨3, ![96, 5, 96]⟩
abbrev S96x480 : Shape := ⟨2, ![96, 480]⟩
abbrev S1x480 : Shape := ⟨2, ![1, 480]⟩
abbrev S480x96 : Shape := ⟨2, ![480, 96]⟩
abbrev S1x5 : Shape := ⟨2, ![1, 5]⟩
abbrev S1x16x224x96 : Shape := ⟨4, ![1, 16, 224, 96]⟩
abbrev S18x226x96 : Shape := ⟨3, ![18, 226, 96]⟩
abbrev S16x226x96 : Shape := ⟨3, ![16, 226, 96]⟩
abbrev S16x224x96 : Shape := ⟨3, ![16, 224, 96]⟩
abbrev S16x224x864 : Shape := ⟨3, ![16, 224, 864]⟩
abbrev S3584x864 : Shape := ⟨2, ![3584, 864]⟩
abbrev S3584x96 : Shape := ⟨2, ![3584, 96]⟩
abbrev S3584x5 : Shape := ⟨2, ![3584, 5]⟩
abbrev S3584 : Shape := ⟨1, ![3584]⟩
abbrev S3584x1 : Shape := ⟨2, ![3584, 1]⟩
abbrev S3584x480 : Shape := ⟨2, ![3584, 480]⟩

abbrev nBuf : Space → Nat
  | .hbm => 43
  | .vmem => 19
  | .smem => 0
  | _ => 0

abbrev bufTy : (tb : Table) → Fin (tcTables nBuf tb) → BufTy
  | .hbm, ⟨0, _⟩ => ⟨S1x224x224x96, .f32⟩
  | .hbm, ⟨1, _⟩ => ⟨S96x96x3x3, .f32⟩
  | .hbm, ⟨2, _⟩ => ⟨S96, .f32⟩
  | .hbm, ⟨3, _⟩ => ⟨S96x96x3, .f32⟩
  | .hbm, ⟨4, _⟩ => ⟨S96, .f32⟩
  | .hbm, ⟨5, _⟩ => ⟨S96x96x3, .f32⟩
  | .hbm, ⟨6, _⟩ => ⟨S96, .f32⟩
  | .hbm, ⟨7, _⟩ => ⟨S96x96x3x3, .f32⟩
  | .hbm, ⟨8, _⟩ => ⟨S96, .f32⟩
  | .hbm, ⟨9, _⟩ => ⟨S96x96x3x3, .f32⟩
  | .hbm, ⟨10, _⟩ => ⟨S96, .f32⟩
  | .hbm, ⟨11, _⟩ => ⟨S96x5, .f32⟩
  | .hbm, ⟨12, _⟩ => ⟨S5, .f32⟩
  | .hbm, ⟨13, _⟩ => ⟨S5x96x96, .f32⟩
  | .hbm, ⟨14, _⟩ => ⟨S5x96, .f32⟩
  | .hbm, ⟨15, _⟩ => ⟨S5x96x96, .f32⟩
  | .hbm, ⟨16, _⟩ => ⟨S5x96, .f32⟩
  | .hbm, ⟨17, _⟩ => ⟨S96x96x9, .f32⟩
  | .hbm, ⟨18, _⟩ => ⟨S9x96x96, .f32⟩
  | .hbm, ⟨19, _⟩ => ⟨S96x96x9, .f32⟩
  | .hbm, ⟨20, _⟩ => ⟨S9x96x96, .f32⟩
  | .hbm, ⟨21, _⟩ => ⟨S96x96x9, .f32⟩
  | .hbm, ⟨22, _⟩ => ⟨S9x96x96, .f32⟩
  | .hbm, ⟨23, _⟩ => ⟨S3x96x96, .f32⟩
  | .hbm, ⟨24, _⟩ => ⟨S3x96x96, .f32⟩
  | .hbm, ⟨25, _⟩ => ⟨S1x96, .f32⟩
  | .hbm, ⟨26, _⟩ => ⟨S1x96, .f32⟩
  | .hbm, ⟨27, _⟩ => ⟨S1x96, .f32⟩
  | .hbm, ⟨28, _⟩ => ⟨S1x96, .f32⟩
  | .hbm, ⟨29, _⟩ => ⟨S1x96, .f32⟩
  | .hbm, ⟨30, _⟩ => ⟨S5x96, .f32⟩
  | .hbm, ⟨31, _⟩ => ⟨S864x96, .f32⟩
  | .hbm, ⟨32, _⟩ => ⟨S1x96, .f32⟩
  | .hbm, ⟨33, _⟩ => ⟨S224x224x96, .f32⟩
  | .hbm, ⟨34, _⟩ => ⟨S_, .i32⟩
  | .hbm, ⟨35, _⟩ => ⟨S_, .f32⟩
  | .hbm, ⟨36, _⟩ => ⟨S226x226x96, .f32⟩
  | .hbm, ⟨37, _⟩ => ⟨S96x5x96, .f32⟩
  | .hbm, ⟨38, _⟩ => ⟨S96x480, .f32⟩
  | .hbm, ⟨39, _⟩ => ⟨S1x480, .f32⟩
  | .hbm, ⟨40, _⟩ => ⟨S480x96, .f32⟩
  | .hbm, ⟨41, _⟩ => ⟨S1x5, .f32⟩
  | .hbm, ⟨42, _⟩ => ⟨S1x224x224x96, .f32⟩
  | .local _ .vmem, ⟨0, _⟩ => ⟨S9x96x96, .f32⟩
  | .local _ .vmem, ⟨1, _⟩ => ⟨S9x96x96, .f32⟩
  | .local _ .vmem, ⟨2, _⟩ => ⟨S3x96x96, .f32⟩
  | .local _ .vmem, ⟨3, _⟩ => ⟨S3x96x96, .f32⟩
  | .local _ .vmem, ⟨4, _⟩ => ⟨S9x96x96, .f32⟩
  | .local _ .vmem, ⟨5, _⟩ => ⟨S5x96, .f32⟩
  | .local _ .vmem, ⟨6, _⟩ => ⟨S864x96, .f32⟩
  | .local _ .vmem, ⟨7, _⟩ => ⟨S1x96, .f32⟩
  | .local _ .vmem, ⟨8, _⟩ => ⟨S226x226x96, .f32⟩
  | .local _ .vmem, ⟨9, _⟩ => ⟨S864x96, .f32⟩
  | .local _ .vmem, ⟨10, _⟩ => ⟨S1x96, .f32⟩
  | .local _ .vmem, ⟨11, _⟩ => ⟨S96x5, .f32⟩
  | .local _ .vmem, ⟨12, _⟩ => ⟨S1x5, .f32⟩
  | .local _ .vmem, ⟨13, _⟩ => ⟨S96x480, .f32⟩
  | .local _ .vmem, ⟨14, _⟩ => ⟨S1x480, .f32⟩
  | .local _ .vmem, ⟨15, _⟩ => ⟨S480x96, .f32⟩
  | .local _ .vmem, ⟨16, _⟩ => ⟨S5x96, .f32⟩
  | .local _ .vmem, ⟨17, _⟩ => ⟨S1x16x224x96, .f32⟩
  | .local _ .vmem, ⟨18, _⟩ => ⟨S1x16x224x96, .f32⟩
  | _, _ => ⟨S1x224x224x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v15 : Ref sig .tc := ⟨.hbm, 33, rfl⟩
abbrev main_c : Ref sig .tc := ⟨.hbm, 34, rfl⟩
abbrev main_call0_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18

abbrev nD : Nat := 1
abbrev τ : Topo := Topo.v7x

variable {F : FTy → Type} [FloatOps F]

abbrev grid0 : Pipeline.Grid := .none

abbrev stage0_0 : Fin 1 → Memref sig .tc .vmem S9x96x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S864x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![14], ![false]⟩

def k1_off1 (i : grid1.Coords) : Fin 3 → Nat :=
  let arg0 : BitVec 32 := BitVec.ofNat 32 (i 0).val
  let c16_i32 : BitVec 32 := 16#32
  let v0 : BitVec 32 := Scalar.muli arg0 c16_i32
  let v1 : Index := Scalar.indexCast v0
  let c0 : Index := 0#32
  let c0_0 : Index := 0#32
  ![v1.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .vmem S226x226x96 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S864x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x480 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x480 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S480x96 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S5x96 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x16x224x96 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S1x224x224x96 : Shape := ⟨4, ![1, 224, 224, 96]⟩
abbrev S96x96x3x3 : Shape := ⟨4, ![96, 96, 3, 3]⟩
abbrev S96 : Shape := ⟨1, ![96]⟩
abbrev S96x96x3 : Shape := ⟨3, ![96, 96, 3]⟩
abbrev S96x5 : Shape := ⟨2, ![96, 5]⟩
abbrev S5 : Shape := ⟨1, ![5]⟩
abbrev S5x96x96 : Shape := ⟨3, ![5, 96, 96]⟩
abbrev S5x96 : Shape := ⟨2, ![5, 96]⟩
abbrev S96x96x9 : Shape := ⟨3, ![96, 96, 9]⟩
abbrev S_ : Shape := ⟨0, ![]⟩
abbrev S96x96 : Shape := ⟨2, ![96, 96]⟩
abbrev S96x96x1 : Shape := ⟨3, ![96, 96, 1]⟩
abbrev S1x226x226x96 : Shape := ⟨4, ![1, 226, 226, 96]⟩
abbrev S96x96x1x1 : Shape := ⟨4, ![96, 96, 1, 1]⟩
abbrev S1x1x1x96 : Shape := ⟨4, ![1, 1, 1, 96]⟩
abbrev S50176x96 : Shape := ⟨2, ![50176, 96]⟩
abbrev S50176x5 : Shape := ⟨2, ![50176, 5]⟩
abbrev S1x5 : Shape := ⟨2, ![1, 5]⟩
abbrev S50176x1 : Shape := ⟨2, ![50176, 1]⟩
abbrev S50176 : Shape := ⟨1, ![50176]⟩
abbrev S50176x5x96 : Shape := ⟨3, ![50176, 5, 96]⟩
abbrev S1x5x96 : Shape := ⟨3, ![1, 5, 96]⟩
abbrev S5x96x50176 : Shape := ⟨3, ![5, 96, 50176]⟩
abbrev S50176x5x1 : Shape := ⟨3, ![50176, 5, 1]⟩

abbrev nBuf : Space → Nat
  | .hbm => 220
  | .vmem => 0
  | .smem => 0
  | _ => 0

abbrev hbmTy0_0 (i : Nat) : BufTy := match i % 128 with
  | 0 => ⟨S1x224x224x96, .f32⟩
  | 1 => ⟨S96x96x3x3, .f32⟩
  | 2 => ⟨S96, .f32⟩
  | 3 => ⟨S96x96x3, .f32⟩
  | 4 => ⟨S96, .f32⟩
  | 5 => ⟨S96x96x3, .f32⟩
  | 6 => ⟨S96, .f32⟩
  | 7 => ⟨S96x96x3x3, .f32⟩
  | 8 => ⟨S96, .f32⟩
  | 9 => ⟨S96x96x3x3, .f32⟩
  | 10 => ⟨S96, .f32⟩
  | 11 => ⟨S96x5, .f32⟩
  | 12 => ⟨S5, .f32⟩
  | 13 => ⟨S5x96x96, .f32⟩
  | 14 => ⟨S5x96, .f32⟩
  | 15 => ⟨S5x96x96, .f32⟩
  | 16 => ⟨S5x96, .f32⟩
  | 17 => ⟨S96x96x9, .f32⟩
  | 18 => ⟨S_, .f32⟩
  | 19 => ⟨S96x96, .f32⟩
  | 20 => ⟨S_, .f32⟩
  | 21 => ⟨S96x96, .f32⟩
  | 22 => ⟨S96x96, .f32⟩
  | 23 => ⟨S96x96x1, .f32⟩
  | 24 => ⟨S96x96x1, .f32⟩
  | 25 => ⟨S96x96x1, .f32⟩
  | 26 => ⟨S96x96x1, .f32⟩
  | 27 => ⟨S96x96x1, .f32⟩
  | 28 => ⟨S96x96x1, .f32⟩
  | 29 => ⟨S96x96x1, .f32⟩
  | 30 => ⟨S96x96x1, .f32⟩
  | 31 => ⟨S96x96x1, .f32⟩
  | 32 => ⟨S96x96x9, .f32⟩
  | 33 => ⟨S96x96x9, .f32⟩
  | 34 => ⟨S96x96x9, .f32⟩
  | 35 => ⟨S96x96x1, .f32⟩
  | 36 => ⟨S96x96, .f32⟩
  | 37 => ⟨S96x96x1, .f32⟩
  | 38 => ⟨S96x96, .f32⟩
  | 39 => ⟨S96x96x1, .f32⟩
  | 40 => ⟨S96x96, .f32⟩
  | 41 => ⟨S96x96x1, .f32⟩
  | 42 => ⟨S96x96, .f32⟩
  | 43 => ⟨S96x96x1, .f32⟩
  | 44 => ⟨S96x96, .f32⟩
  | 45 => ⟨S96x96x1, .f32⟩
  | 46 => ⟨S96x96, .f32⟩
  | 47 => ⟨S96x96x1, .f32⟩
  | 48 => ⟨S96x96, .f32⟩
  | 49 => ⟨S96x96x1, .f32⟩
  | 50 => ⟨S96x96, .f32⟩
  | 51 => ⟨S96x96x1, .f32⟩
  | 52 => ⟨S96x96, .f32⟩
  | 53 => ⟨S96x96x1, .f32⟩
  | 54 => ⟨S96x96x1, .f32⟩
  | 55 => ⟨S96x96x1, .f32⟩
  | 56 => ⟨S96x96x1, .f32⟩
  | 57 => ⟨S96x96x1, .f32⟩
  | 58 => ⟨S96x96x1, .f32⟩
  | 59 => ⟨S96x96x1, .f32⟩
  | 60 => ⟨S96x96x1, .f32⟩
  | 61 => ⟨S96x96x1, .f32⟩
  | 62 => ⟨S96x96x9, .f32⟩
  | 63 => ⟨S96x96x9, .f32⟩
  | 64 => ⟨S96x96x1, .f32⟩
  | 65 => ⟨S96x96, .f32⟩
  | 66 => ⟨S96x96x1, .f32⟩
  | 67 => ⟨S96x96, .f32⟩
  | 68 => ⟨S96x96x1, .f32⟩
  | 69 => ⟨S96x96, .f32⟩
  | 70 => ⟨S96x96, .f32⟩
  | 71 => ⟨S96x96, .f32⟩
  | 72 => ⟨S96x96, .f32⟩
  | 73 => ⟨S96x96x1, .f32⟩
  | 74 => ⟨S96x96x1, .f32⟩
  | 75 => ⟨S96x96x1, .f32⟩
  | 76 => ⟨S96x96x1, .f32⟩
  | 77 => ⟨S96x96x1, .f32⟩
  | 78 => ⟨S96x96x1, .f32⟩
  | 79 => ⟨S96x96x1, .f32⟩
  | 80 => ⟨S96x96x1, .f32⟩
  | 81 => ⟨S96x96x1, .f32⟩
  | 82 => ⟨S96x96x9, .f32⟩
  | 83 => ⟨S96x96x1, .f32⟩
  | 84 => ⟨S96x96, .f32⟩
  | 85 => ⟨S96x96x1, .f32⟩
  | 86 => ⟨S96x96, .f32⟩
  | 87 => ⟨S96x96x1, .f32⟩
  | 88 => ⟨S96x96, .f32⟩
  | 89 => ⟨S96x96, .f32⟩
  | 90 => ⟨S96x96, .f32⟩
  | 91 => ⟨S96x96, .f32⟩
  | 92 => ⟨S96x96x1, .f32⟩
  | 93 => ⟨S96x96x1, .f32⟩
  | 94 => ⟨S96x96x1, .f32⟩
  | 95 => ⟨S96x96x1, .f32⟩
  | 96 => ⟨S96x96x1, .f32⟩
  | 97 => ⟨S96x96x1, .f32⟩
  | 98 => ⟨S96x96x1, .f32⟩
  | 99 => ⟨S96x96x1, .f32⟩
  | 100 => ⟨S96x96x1, .f32⟩
  | 101 => ⟨S96x96x9, .f32⟩
  | 102 => ⟨S96x96x9, .f32⟩
  | 103 => ⟨S96x96x9, .f32⟩
  | 104 => ⟨S96x96x9, .f32⟩
  | 105 => ⟨S96x96x3x3, .f32⟩
  | 106 => ⟨S96x96x3x3, .f32⟩
  | 107 => ⟨S96, .f32⟩
  | 108 => ⟨S96, .f32⟩
  | 109 => ⟨S96, .f32⟩
  | 110 => ⟨S96, .f32⟩
  | 111 => ⟨S_, .i32⟩
  | 112 => ⟨S_, .f32⟩
  | 113 => ⟨S1x226x226x96, .f32⟩
  | 114 => ⟨S_, .f32⟩
  | 115 => ⟨S1x224x224x96, .f32⟩
  | 116 => ⟨S1x224x224x96, .f32⟩
  | 117 => ⟨S96x96x1x1, .f32⟩
  | 118 => ⟨S96x96, .f32⟩
  | 119 => ⟨S1x224x224x96, .f32⟩
  | 120 => ⟨S1x224x224x96, .f32⟩
  | 121 => ⟨S1x224x224x96, .f32⟩
  | 122 => ⟨S96x96x1x1, .f32⟩
  | 123 => ⟨S96x96, .f32⟩
  | 124 => ⟨S1x224x224x96, .f32⟩
  | 125 => ⟨S1x224x224x96, .f32⟩
  | 126 => ⟨S1x224x224x96, .f32⟩
  | 127 => ⟨S96x96x1x1, .f32⟩
  | _ => ⟨S1x224x224x96, .f32⟩

abbrev hbmTy0_1 (i : Nat) : BufTy := match i % 128 with
  | 0 => ⟨S96x96, .f32⟩
  | 1 => ⟨S1x224x224x96, .f32⟩
  | 2 => ⟨S1x224x224x96, .f32⟩
  | 3 => ⟨S1x224x224x96, .f32⟩
  | 4 => ⟨S96x96x1x1, .f32⟩
  | 5 => ⟨S96x96, .f32⟩
  | 6 => ⟨S1x224x224x96, .f32⟩
  | 7 => ⟨S1x224x224x96, .f32⟩
  | 8 => ⟨S1x224x224x96, .f32⟩
  | 9 => ⟨S96x96x1x1, .f32⟩
  | 10 => ⟨S96x96, .f32⟩
  | 11 => ⟨S1x224x224x96, .f32⟩
  | 12 => ⟨S1x224x224x96, .f32⟩
  | 13 => ⟨S1x224x224x96, .f32⟩
  | 14 => ⟨S96x96x1x1, .f32⟩
  | 15 => ⟨S96x96, .f32⟩
  | 16 => ⟨S1x224x224x96, .f32⟩
  | 17 => ⟨S1x224x224x96, .f32⟩
  | 18 => ⟨S1x224x224x96, .f32⟩
  | 19 => ⟨S96x96x1x1, .f32⟩
  | 20 => ⟨S96x96, .f32⟩
  | 21 => ⟨S1x224x224x96, .f32⟩
  | 22 => ⟨S1x224x224x96, .f32⟩
  | 23 => ⟨S1x224x224x96, .f32⟩
  | 24 => ⟨S96x96x1x1, .f32⟩
  | 25 => ⟨S96x96, .f32⟩
  | 26 => ⟨S1x224x224x96, .f32⟩
  | 27 => ⟨S1x224x224x96, .f32⟩
  | 28 => ⟨S1x224x224x96, .f32⟩
  | 29 => ⟨S96x96x1x1, .f32⟩
  | 30 => ⟨S96x96, .f32⟩
  | 31 => ⟨S1x224x224x96, .f32⟩
  | 32 => ⟨S1x224x224x96, .f32⟩
  | 33 => ⟨S1x1x1x96, .f32⟩
  | 34 => ⟨S1x224x224x96, .f32⟩
  | 35 => ⟨S1x224x224x96, .f32⟩
  | 36 => ⟨S50176x96, .f32⟩
  | 37 => ⟨S50176x5, .f32⟩
  | 38 => ⟨S1x5, .f32⟩
  | 39 => ⟨S50176x5, .f32⟩
  | 40 => ⟨S50176x5, .f32⟩
  | 41 => ⟨S50176x1, .f32⟩
  | 42 => ⟨S50176x1, .i32⟩
  | 43 => ⟨S5, .i32⟩
  | 44 => ⟨S1x5, .i32⟩
  | 45 => ⟨S50176x5, .i32⟩
  | 46 => ⟨S50176x5, .i32⟩
  | 47 => ⟨S50176x5, .i1⟩
  | 48 => ⟨S_, .f32⟩
  | 49 => ⟨S_, .f32⟩
  | 50 => ⟨S50176x5, .f32⟩
  | 51 => ⟨S50176x5, .f32⟩
  | 52 => ⟨S50176x5, .f32⟩
  | 53 => ⟨S_, .f32⟩
  | 54 => ⟨S50176, .f32⟩
  | 55 => ⟨S_, .f32⟩
  | 56 => ⟨S50176, .f32⟩
  | 57 => ⟨S50176, .f32⟩
  | 58 => ⟨S50176x1, .f32⟩
  | 59 => ⟨S50176x5, .f32⟩
  | 60 => ⟨S50176x5, .f32⟩
  | 61 => ⟨S50176x5, .f32⟩
  | 62 => ⟨S_, .f32⟩
  | 63 => ⟨S50176, .f32⟩
  | 64 => ⟨S50176x1, .f32⟩
  | 65 => ⟨S50176x5, .f32⟩
  | 66 => ⟨S50176x5, .f32⟩
  | 67 => ⟨S50176x5x96, .f32⟩
  | 68 => ⟨S1x5x96, .f32⟩
  | 69 => ⟨S50176x5x96, .f32⟩
  | 70 => ⟨S50176x5x96, .f32⟩
  | 71 => ⟨S_, .f32⟩
  | 72 => ⟨S50176x5x96, .f32⟩
  | 73 => ⟨S50176x5x96, .f32⟩
  | 74 => ⟨S5x96x50176, .f32⟩
  | 75 => ⟨S50176x5x96, .f32⟩
  | 76 => ⟨S1x5x96, .f32⟩
  | 77 => ⟨S50176x5x96, .f32⟩
  | 78 => ⟨S50176x5x96, .f32⟩
  | 79 => ⟨S50176x5x1, .f32⟩
  | 80 => ⟨S50176x5x96, .f32⟩
  | 81 => ⟨S50176x5x96, .f32⟩
  | 82 => ⟨S_, .f32⟩
  | 83 => ⟨S50176x96, .f32⟩
  | 84 => ⟨S1x224x224x96, .f32⟩
  | 85 => ⟨S_, .f32⟩
  | 86 => ⟨S1x224x224x96, .f32⟩
  | 87 => ⟨S1x224x224x96, .i1⟩
  | 88 => ⟨S_, .f32⟩
  | 89 => ⟨S1x224x224x96, .f32⟩
  | 90 => ⟨S1x224x224x96, .f32⟩
  | 91 => ⟨S1x224x224x96, .f32⟩
  | _ => ⟨S1x224x224x96, .f32⟩

abbrev hbmTy (i : Nat) : BufTy := match i / 128 with
  | 0 => hbmTy0_0 i
  | 1 => hbmTy0_1 i
  | _ => ⟨S1x224x224x96, .f32⟩

abbrev bufTy : (tb : Table) → Fin (tcTables nBuf tb) → BufTy
  | .hbm, ⟨i, _⟩ => hbmTy i
  | _, _ => ⟨S1x224x224x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_c : Ref sig .tc := ⟨.hbm, 111, rfl⟩
abbrev main_call0_v0 : Ref sig .tc := ⟨.hbm, 112, rfl⟩
abbrev main_v92 : Ref sig .tc := ⟨.hbm, 113, rfl⟩
abbrev main_cst_1 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_values : Ref sig .tc := ⟨.hbm, 169, rfl⟩
abbrev main_indices : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_cst_2 : Ref sig .tc := ⟨.hbm, 176, rfl⟩
abbrev main_call1_v0 : Ref sig .tc := ⟨.hbm, 177, rfl⟩
abbrev main_call1_v1 : Ref sig .tc := ⟨.hbm, 178, rfl⟩
abbrev main_call1_v2 : Ref sig .tc := ⟨.hbm, 179, rfl⟩
abbrev main_v152 : Ref sig .tc := ⟨.hbm, 180, rfl⟩
abbrev main_cst_3 : Ref sig .tc := ⟨.hbm, 181, rfl⟩
abbrev main_v153 : Ref sig .tc := ⟨.hbm, 182, rfl⟩
abbrev main_cst_4 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_cst_5 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_call2_cst : Ref sig .tc := ⟨.hbm, 199, rfl⟩
abbrev main_call2_v0 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_cst_6 : Ref sig .tc := ⟨.hbm, 210, rfl⟩
abbrev main_v177 : Ref sig .tc := ⟨.hbm, 211, rfl⟩
abbrev main_v178 : Ref sig .tc := ⟨.hbm, 212, rfl⟩
abbrev main_cst_7 : Ref sig .tc := ⟨.hbm, 213, rfl⟩
abbrev main_v179 : Ref sig .tc := ⟨.hbm, 214, rfl⟩
abbrev main_v180 : Ref sig .tc := ⟨.hbm, 215, rfl⟩
abbrev main_cst_8 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩

abbrev nD : Nat := 1
abbrev τ : Topo := Topo.v7x

variable {F : FTy → Type} [FloatOps F]
-- ==== Proof.Spec.lean ====
/-
  What one output element is, in plain extended-real arithmetic: the combined 3×3 weight of the five difference
  convolutions, the convolution of the padded image, the router's logits, the first greatest logit, the experts, and
  the leaky rectifier. Nothing here mentions a program: the kernel's modules and the reference's each show that their
  side computes `pixel`.
-/
module

public import Idealize.ShloMosaic.Lib.Pointwise

@[expose] public section

noncomputable section

namespace DeconvMoe

open Idealize.ShloMosaic

/-! ## The mixture of experts at one pixel -/

/-- Expert `e` is the one routed to: its logit is the greatest, and every expert before it has a smaller one. -/
def IsTop (L : Fin 5 → EReal) (e : Fin 5) : Prop := (∀ j, L j ≤ L e) ∧ ∀ j, j < e → L j < L e

open Classical in
/-- The gate of expert `e`: one at the first greatest logit, zero elsewhere. -/
def gate (L : Fin 5 → EReal) (e : Fin 5) : EReal := if IsTop L e then 1 else 0

/-- The router's logit of expert `e` at a pixel of channels `y`. -/
def logit (wr : Fin 96 → Fin 5 → EReal) (br : Fin 5 → EReal) (y : Fin 96 → EReal) (e : Fin 5) : EReal :=
  (∑ c, y c * wr c e) + br e

/-- Expert `e`'s hidden unit `d`. -/
def hidden (w1 : Fin 5 → Fin 96 → Fin 96 → EReal) (b1 : Fin 5 → Fin 96 → EReal) (y : Fin 96 → EReal) (e : Fin 5)
    (d : Fin 96) : EReal :=
  max ((∑ c, y c * w1 e c d) + b1 e d) 0

/-- Expert `e`'s output channel `o`. -/
def expert (w1 : Fin 5 → Fin 96 → Fin 96 → EReal) (b1 : Fin 5 → Fin 96 → EReal) (w2 : Fin 5 → Fin 96 → Fin 96 → EReal)
    (b2 : Fin 5 → Fin 96 → EReal) (y : Fin 96 → EReal) (e : Fin 5) (o : Fin 96) : EReal :=
  (∑ d, hidden w1 b1 y e d * w2 e d o) + b2 e o

/-- The gated sum of the experts. -/
def moe (wr : Fin 96 → Fin 5 → EReal) (br : Fin 5 → EReal) (w1 : Fin 5 → Fin 96 → Fin 96 → EReal)
    (b1 : Fin 5 → Fin 96 → EReal) (w2 : Fin 5 → Fin 96 → Fin 96 → EReal) (b2 : Fin 5 → Fin 96 → EReal)
    (y : Fin 96 → EReal) (o : Fin 96) : EReal :=
  ∑ e, gate (logit wr br y) e * expert w1 b1 w2 b2 y e o

/-- The leaky rectifier, its slope the f32 constant both programs carry. -/
def leaky (v : EReal) : EReal := if 0 ≤ v then v else Ideal.ofBits .f32 0x3C23D70A#32 * v

/-! ## The convolution -/

/-- The image with a border of one zero pixel. -/
def bordered (x : Fin 224 → Fin 224 → Fin 96 → EReal) (r c : Fin 226) (i : Fin 96) : EReal :=
  if h : (1 ≤ r.val ∧ r.val < 225) ∧ 1 ≤ c.val ∧ c.val < 225 then
    x ⟨r.val - 1, by omega⟩ ⟨c.val - 1, by omega⟩ i
  else 0

/-- The 3×3 convolution read at one pixel, tap `t` being row `t / 3` and column `t % 3` of the window. -/
def conv (xp : Fin 226 → Fin 226 → Fin 96 → EReal) (w : Fin 9 → Fin 96 → Fin 96 → EReal) (b : Fin 96 → EReal)
    (r c : Fin 224) (o : Fin 96) : EReal :=
  (∑ t : Fin 9, ∑ i, xp ⟨r.val + t.val / 3, by omega⟩ ⟨c.val + t.val % 3, by omega⟩ i * w t i o) + b o

/-- The tap the angular difference subtracts at tap `t`: the window turned by one step. -/
def turned : Fin 9 → Fin 9 := ![3, 0, 1, 6, 4, 2, 7, 8, 5]

/-- The horizontal difference's three weights spread over the window: the left column, minus the right column. -/
def acrossTap (h : Fin 3 → EReal) : Fin 9 → EReal := ![h 0, 0, -h 0, h 1, 0, -h 1, h 2, 0, -h 2]

/-- The vertical difference's three weights spread over the window: the top row, minus the bottom row. -/
def downTap (v : Fin 3 → EReal) : Fin 9 → EReal := ![v 0, v 1, v 2, 0, 0, 0, -v 0, -v 1, -v 2]

/-- The combined weight of tap `t`: central, angular, horizontal, vertical and standard. -/
def tapWeight (cd ad : Fin 9 → EReal) (hd vd : Fin 3 → EReal) (st : Fin 9 → EReal) (t : Fin 9) : EReal :=
  cd t + (if t = 4 then -∑ k, cd k else 0) + (ad t - ad (turned t)) + acrossTap hd t + downTap vd t + st t

/-! ## The whole computation -/

/-- The combined weights of tap `t` from channel `i` to channel `o`, of the five weight arrays. -/
def weights (cd : (⟨4, ![96, 96, 3, 3]⟩ : Shape).Idx → EReal) (hd vd : (⟨3, ![96, 96, 3]⟩ : Shape).Idx → EReal)
    (ad st : (⟨4, ![96, 96, 3, 3]⟩ : Shape).Idx → EReal) (t : Fin 9) (i o : Fin 96) : EReal :=
  tapWeight (fun t => cd (ix4 o i ⟨t.val / 3, by omega⟩ ⟨t.val % 3, by omega⟩))
    (fun t => ad (ix4 o i ⟨t.val / 3, by omega⟩ ⟨t.val % 3, by omega⟩))
    (fun k => hd (ix3 o i k)) (fun k => vd (ix3 o i k))
    (fun t => st (ix4 o i ⟨t.val / 3, by omega⟩ ⟨t.val % 3, by omega⟩)) t

/-- The five biases added up, at channel `o`. -/
def biases (bcd bhd bvd bad bst : (⟨1, ![96]⟩ : Shape).Idx → EReal) (o : Fin 96) : EReal :=
  bcd (ix1 o) + bhd (ix1 o) + bvd (ix1 o) + bad (ix1 o) + bst (ix1 o)

/-- The convolution's output channels at pixel `(r, c)`. -/
def features (x : (⟨4, ![1, 224, 224, 96]⟩ : Shape).Idx → EReal)
    (wcd : (⟨4, ![96, 96, 3, 3]⟩ : Shape).Idx → EReal) (bcd : (⟨1, ![96]⟩ : Shape).Idx → EReal)
    (whd : (⟨3, ![96, 96, 3]⟩ : Shape).Idx → EReal) (bhd : (⟨1, ![96]⟩ : Shape).Idx → EReal)
    (wvd : (⟨3, ![96, 96, 3]⟩ : Shape).Idx → EReal) (bvd : (⟨1, ![96]⟩ : Shape).Idx → EReal)
    (wad : (⟨4, ![96, 96, 3, 3]⟩ : Shape).Idx → EReal) (bad : (⟨1, ![96]⟩ : Shape).Idx → EReal)
    (wst : (⟨4, ![96, 96, 3, 3]⟩ : Shape).Idx → EReal) (bst : (⟨1, ![96]⟩ : Shape).Idx → EReal)
    (r c : Fin 224) (o : Fin 96) : EReal :=
  conv (bordered fun r c i => x (ix4 0 r c i)) (weights wcd whd wvd wad wst)
    (biases bcd bhd bvd bad bst) r c o

/-- The result at pixel `(r, c)`, channel `o`, of the seventeen arguments. -/
def pixel (x : (⟨4, ![1, 224, 224, 96]⟩ : Shape).Idx → EReal)
    (wcd : (⟨4, ![96, 96, 3, 3]⟩ : Shape).Idx → EReal) (bcd : (⟨1, ![96]⟩ : Shape).Idx → EReal)
    (whd : (⟨3, ![96, 96, 3]⟩ : Shape).Idx → EReal) (bhd : (⟨1, ![96]⟩ : Shape).Idx → EReal)
    (wvd : (⟨3, ![96, 96, 3]⟩ : Shape).Idx → EReal) (bvd : (⟨1, ![96]⟩ : Shape).Idx → EReal)
    (wad : (⟨4, ![96, 96, 3, 3]⟩ : Shape).Idx → EReal) (bad : (⟨1, ![96]⟩ : Shape).Idx → EReal)
    (wst : (⟨4, ![96, 96, 3, 3]⟩ : Shape).Idx → EReal) (bst : (⟨1, ![96]⟩ : Shape).Idx → EReal)
    (wr : (⟨2, ![96, 5]⟩ : Shape).Idx → EReal) (br : (⟨1, ![5]⟩ : Shape).Idx → EReal)
    (w1 : (⟨3, ![5, 96, 96]⟩ : Shape).Idx → EReal) (b1 : (⟨2, ![5, 96]⟩ : Shape).Idx → EReal)
    (w2 : (⟨3, ![5, 96, 96]⟩ : Shape).Idx → EReal) (b2 : (⟨2, ![5, 96]⟩ : Shape).Idx → EReal)
    (r c : Fin 224) (o : Fin 96) : EReal :=
  leaky (moe (fun c e => wr (ix2 c e)) (fun e => br (ix1 e)) (fun e c d => w1 (ix3 e c d)) (fun e d => b1 (ix2 e d))
    (fun e d o => w2 (ix3 e d o)) (fun e o => b2 (ix2 e o))
    (features x wcd bcd whd bhd wvd bvd wad bad wst bst r c) o)

/-! ## Arithmetic both sides use -/

/-- A sum over `n * m` positions, taken tile by tile. -/
theorem sum_tiles {n m N : Nat} (h : n * m = N) (f : Fin N → EReal) :
    ∑ k, f k = ∑ t : Fin n, ∑ i : Fin m,
      f ⟨t.val * m + i.val, by subst h; calc
        t.val * m + i.val < t.val * m + m := by omega
        _ = (t.val + 1) * m := by ring
        _ ≤ n * m := Nat.mul_le_mul_right _ t.isLt⟩ := by
  subst h
  rw [← Fintype.sum_prod_type', ← Equiv.sum_comp finProdFinEquiv]
  refine Finset.sum_congr rfl fun p _ => congrArg f (Fin.ext ?_)
  show p.2.val + m * p.1.val = p.1.val * m + p.2.val
  rw [Nat.mul_comm, Nat.add_comm]

/-- The pattern of negative infinity denotes the least extended real. -/
theorem ofBits_negInf : Ideal.ofBits .f32 0xFF800000#32 = (⊥ : EReal) := by
  simp [Ideal.ofBits, Ideal.ieee]

/-- The pattern of infinity denotes the greatest extended real. -/
theorem ofBits_inf : Ideal.ofBits .f32 0x7F800000#32 = (⊤ : EReal) := by
  simp [Ideal.ofBits, Ideal.ieee]

/-- The greatest of five, as a fold from the least element, bounds each of them. -/
theorem le_fold_max (L : Fin 5 → EReal) (j : Fin 5) : L j ≤ Finset.univ.fold max ⊥ L :=
  (Finset.le_fold_max _).2 (.inr ⟨j, Finset.mem_univ _, le_rfl⟩)

/-- The greatest of five is one of the five. -/
theorem exists_eq_fold_max (L : Fin 5 → EReal) : ∃ j, L j = Finset.univ.fold max ⊥ L := by
  obtain ⟨j, -, hj⟩ := Finset.exists_max_image Finset.univ L ⟨0, Finset.mem_univ _⟩
  refine ⟨j, le_antisymm (le_fold_max L j) ?_⟩
  exact (Finset.fold_max_le _).2 ⟨bot_le, fun i _ => hj i (Finset.mem_univ _)⟩

/-- Being the first greatest: equal to the maximum, with no earlier one equal to it. -/
theorem isTop_iff (L : Fin 5 → EReal) (e : Fin 5) :
    IsTop L e ↔ L e = Finset.univ.fold max ⊥ L ∧ ∀ j, j < e → L j ≠ Finset.univ.fold max ⊥ L := by
  obtain ⟨k, hk⟩ := exists_eq_fold_max L
  constructor
  · rintro ⟨h1, h2⟩
    have he : L e = Finset.univ.fold max ⊥ L := le_antisymm (le_fold_max L e) (hk ▸ h1 k)
    exact ⟨he, fun j hj => he ▸ (h2 j hj).ne⟩
  · rintro ⟨h1, h2⟩
    refine ⟨fun j => h1 ▸ le_fold_max L j, fun j hj => ?_⟩
    exact lt_of_le_of_ne (h1 ▸ le_fold_max L j) (h1 ▸ h2 j hj)

/-- A gate is zero or one. -/
theorem gate_eq (L : Fin 5 → EReal) (e : Fin 5) : gate L e = 0 ∨ gate L e = 1 := by
  unfold gate; split_ifs <;> simp

end DeconvMoe
-- ==== Proof.KBody.lean ====
/-
  The second kernel's body at an index: each payload of its skeleton read down to scalars, and the whole body as the
  gated mixture of experts of the block's convolution.
-/
module

public import proofs.«01_k».proof.Proof.Gen.KernelIdeal.Skeleton
public import proofs.«01_k».proof.Proof.Spec

@[expose] public section

set_option maxRecDepth 16384

noncomputable section

namespace DeconvMoe.KernelBody

open Idealize.ShloMosaic Cert.KernelIdeal Cert.KernelIdeal.Gen

/-- Nine pieces of ninety-six laid side by side, read at position `t * 96 + i`: piece `t` at `i`. -/
theorem nine_pieces (f0 f1 f2 f3 f4 f5 f6 f7 f8 : Fin 96 → EReal) (t : Fin 9) (i : Fin 96) (n : Nat) (hn : n = t.val * 96 + i.val) :
    (if h : n < 96 then f0 ⟨n, h⟩ else
      if h : n - 96 < 96 then f1 ⟨n - 96, h⟩ else
      if h : n - 96 - 96 < 96 then f2 ⟨n - 96 - 96, h⟩ else
      if h : n - 96 - 96 - 96 < 96 then f3 ⟨n - 96 - 96 - 96, h⟩ else
      if h : n - 96 - 96 - 96 - 96 < 96 then f4 ⟨n - 96 - 96 - 96 - 96, h⟩ else
      if h : n - 96 - 96 - 96 - 96 - 96 < 96 then f5 ⟨n - 96 - 96 - 96 - 96 - 96, h⟩ else
      if h : n - 96 - 96 - 96 - 96 - 96 - 96 < 96 then f6 ⟨n - 96 - 96 - 96 - 96 - 96 - 96, h⟩ else
      if h : n - 96 - 96 - 96 - 96 - 96 - 96 - 96 < 96 then f7 ⟨n - 96 - 96 - 96 - 96 - 96 - 96 - 96, h⟩ else
      f8 ⟨n - 96 - 96 - 96 - 96 - 96 - 96 - 96 - 96, by omega⟩)
      = (![f0, f1, f2, f3, f4, f5, f6, f7, f8] : Fin 9 → Fin 96 → EReal) t i := by
  obtain ⟨i, hi⟩ := i
  obtain ⟨t, ht⟩ := t
  simp only at hn
  interval_cases t
  · rw [dif_pos (by omega)]; exact congrArg f0 (Fin.ext (by simp only; omega))
  · rw [dif_neg (by omega), dif_pos (by omega)]; exact congrArg f1 (Fin.ext (by simp only; omega))
  · rw [dif_neg (by omega), dif_neg (by omega), dif_pos (by omega)]; exact congrArg f2 (Fin.ext (by simp only; omega))
  · rw [dif_neg (by omega), dif_neg (by omega), dif_neg (by omega), dif_pos (by omega)]; exact congrArg f3 (Fin.ext (by simp only; omega))
  · rw [dif_neg (by omega), dif_neg (by omega), dif_neg (by omega), dif_neg (by omega), dif_pos (by omega)]; exact congrArg f4 (Fin.ext (by simp only; omega))
  · rw [dif_neg (by omega), dif_neg (by omega), dif_neg (by omega), dif_neg (by omega), dif_neg (by omega), dif_pos (by omega)]; exact congrArg f5 (Fin.ext (by simp only; omega))
  · rw [dif_neg (by omega), dif_neg (by omega), dif_neg (by omega), dif_neg (by omega), dif_neg (by omega), dif_neg (by omega), dif_pos (by omega)]; exact congrArg f6 (Fin.ext (by simp only; omega))
  · rw [dif_neg (by omega), dif_neg (by omega), dif_neg (by omega), dif_neg (by omega), dif_neg (by omega), dif_neg (by omega), dif_neg (by omega), dif_pos (by omega)]; exact congrArg f7 (Fin.ext (by simp only; omega))
  · rw [dif_neg (by omega), dif_neg (by omega), dif_neg (by omega), dif_neg (by omega), dif_neg (by omega), dif_neg (by omega), dif_neg (by omega), dif_neg (by omega)]; exact congrArg f8 (Fin.ext (by simp only; omega))

set_option maxHeartbeats 1000000 in
/-- The block's convolution at row `r` of the flattened block: nine taps of ninety-six channels, and the bias. -/
theorem conv_apply (v2 : Vec Ideal S18x226x96 .f32) (v18 : Vec Ideal S864x96 .f32) (v21 : Vec Ideal S1x96 .f32)
    (r : Fin 3584) (o : Fin 96) :
    k1_pay2 v2 v18 v21 (ix2 r o)
      = (∑ t : Fin 9, ∑ i : Fin 96,
          v2 (ix3 ⟨r.val / 224 + t.val / 3, by omega⟩ ⟨r.val % 224 + t.val % 3, by omega⟩ i)
            * v18 (ix2 ⟨t.val * 96 + i.val, by omega⟩ o)) + v21 (ix2 0 o) := by
  pointwise [k1_pay2]
  rw [sum_tiles (n := 9) (m := 96) rfl]
  refine congrArg (· + v21 (ix2 0 o)) (Finset.sum_congr rfl fun t _ => Finset.sum_congr rfl fun i _ => ?_)
  refine congrArg (· * v18 (ix2 ⟨t.val * 96 + i.val, by omega⟩ o)) ?_
  refine (nine_pieces
      (fun i => v2 (ix3 ⟨r.val / 224, by omega⟩ ⟨r.val % 224, by omega⟩ i))
      (fun i => v2 (ix3 ⟨r.val / 224, by omega⟩ ⟨1 + r.val % 224, by omega⟩ i))
      (fun i => v2 (ix3 ⟨r.val / 224, by omega⟩ ⟨2 + r.val % 224, by omega⟩ i))
      (fun i => v2 (ix3 ⟨1 + r.val / 224, by omega⟩ ⟨r.val % 224, by omega⟩ i))
      (fun i => v2 (ix3 ⟨1 + r.val / 224, by omega⟩ ⟨1 + r.val % 224, by omega⟩ i))
      (fun i => v2 (ix3 ⟨1 + r.val / 224, by omega⟩ ⟨2 + r.val % 224, by omega⟩ i))
      (fun i => v2 (ix3 ⟨2 + r.val / 224, by omega⟩ ⟨r.val % 224, by omega⟩ i))
      (fun i => v2 (ix3 ⟨2 + r.val / 224, by omega⟩ ⟨1 + r.val % 224, by omega⟩ i))
      (fun i => v2 (ix3 ⟨2 + r.val / 224, by omega⟩ ⟨2 + r.val % 224, by omega⟩ i)) t i
      (t.val * 96 + i.val) rfl).trans ?_
  obtain ⟨t, ht⟩ := t
  interval_cases t
  all_goals
    refine congrArg v2 ((ix3_inj _ _ _ _ _ _).2 ⟨Fin.ext ?_, Fin.ext ?_, rfl⟩)
    · simp only [Nat.reduceDiv]; omega
    · simp only [Nat.reduceMod]; omega

/-- The block's logits at row `r`. -/
theorem logits_apply (v2 : Vec Ideal S18x226x96 .f32) (v18 : Vec Ideal S864x96 .f32) (v21 : Vec Ideal S1x96 .f32)
    (v25 : Vec Ideal S96x5 .f32) (v27 : Vec Ideal S1x5 .f32) (r : Fin 3584) (e : Fin 5) :
    k1_pay3 v2 v18 v21 v25 v27 (ix2 r e)
      = logit (fun c e => v25 (ix2 c e)) (fun e => v27 (ix2 0 e)) (fun c => k1_pay2 v2 v18 v21 (ix2 r c)) e := by
  pointwise [k1_pay3, logit]

/-- The greatest logit at row `r`. -/
theorem greatest_apply (v2 : Vec Ideal S18x226x96 .f32) (v18 : Vec Ideal S864x96 .f32) (v21 : Vec Ideal S1x96 .f32)
    (v25 : Vec Ideal S96x5 .f32) (v27 : Vec Ideal S1x5 .f32) (r : Fin 3584) :
    k1_pay4 v2 v18 v21 v25 v27 (ix2 r 0)
      = Finset.univ.fold max (⊥ : EReal) fun e => k1_pay3 v2 v18 v21 v25 v27 (ix2 r e) := by
  pointwise [k1_pay4]
  rw [ofBits_negInf]

/-- The five selections are the five gates: expert `e` takes what it equals the greatest at and no earlier one took. -/
theorem gates_chain (L : Fin 5 → EReal) (m : EReal) (hm : m = Finset.univ.fold max (⊥ : EReal) L)
    (s0 s1 s2 s3 s4 : EReal)
    (h0 : s0 = (if L 0 = m then (1 : EReal) else 0) * (1 - 0))
    (h1 : s1 = (if L 1 = m then (1 : EReal) else 0) * (1 - (0 + s0)))
    (h2 : s2 = (if L 2 = m then (1 : EReal) else 0) * (1 - (0 + s0 + s1)))
    (h3 : s3 = (if L 3 = m then (1 : EReal) else 0) * (1 - (0 + s0 + s1 + s2)))
    (h4 : s4 = (if L 4 = m then (1 : EReal) else 0) * (1 - (0 + s0 + s1 + s2 + s3))) :
    s0 = gate L 0 ∧ s1 = gate L 1 ∧ s2 = gate L 2 ∧ s3 = gate L 3 ∧ s4 = gate L 4 := by
  have one_sub : (1 : EReal) - 1 = 0 := by
    rw [show (1 : EReal) = ((1 : ℝ) : EReal) from rfl, ← EReal.coe_sub]; simp
  simp only [gate, isTop_iff, ← hm]
  have z0 : ∀ j : Fin 5, ¬ j < 0 := fun j => by omega
  have z1 : ∀ j : Fin 5, j < 1 ↔ j = 0 := by decide
  have z2 : ∀ j : Fin 5, j < 2 ↔ j = 0 ∨ j = 1 := by decide
  have z3 : ∀ j : Fin 5, j < 3 ↔ j = 0 ∨ j = 1 ∨ j = 2 := by decide
  have z4 : ∀ j : Fin 5, j < 4 ↔ j = 0 ∨ j = 1 ∨ j = 2 ∨ j = 3 := by decide
  simp only [z0, z1, z2, z3, z4]
  by_cases c0 : L 0 = m <;> by_cases c1 : L 1 = m <;> by_cases c2 : L 2 = m <;> by_cases c3 : L 3 = m <;>
    by_cases c4 : L 4 = m <;>
    simp only [c0, c1, c2, c3, c4, if_true, if_false, sub_zero, zero_add, mul_one, one_mul, zero_mul, add_zero]
      at h0 h1 h2 h3 h4 <;>
    subst h0 <;> (try simp only [one_sub, sub_zero, add_zero, zero_add] at h1 h2 h3 h4) <;>
    subst h1 <;> (try simp only [one_sub, sub_zero, add_zero, zero_add] at h2 h3 h4) <;>
    subst h2 <;> (try simp only [one_sub, sub_zero, add_zero, zero_add] at h3 h4) <;>
    subst h3 <;> (try simp only [one_sub, sub_zero, add_zero, zero_add] at h4) <;>
    subst h4 <;> simp [c0, c1, c2, c3, c4]

/-- The kernel's sum over the five experts laid side by side, each hidden unit masked by its expert's gate, and the
    gated biases added one expert at a time, is the gated mixture. -/
theorem mixture_of_masked (wr : Fin 96 → Fin 5 → EReal) (br : Fin 5 → EReal) (w1 : Fin 5 → Fin 96 → Fin 96 → EReal)
    (b1 : Fin 5 → Fin 96 → EReal) (w2 : Fin 5 → Fin 96 → Fin 96 → EReal) (b2 : Fin 5 → Fin 96 → EReal)
    (y : Fin 96 → EReal) (o : Fin 96) :
    (∑ e : Fin 5, ∑ d : Fin 96, hidden w1 b1 y e d * gate (logit wr br y) e * w2 e d o)
        + gate (logit wr br y) 0 * b2 0 o + gate (logit wr br y) 1 * b2 1 o + gate (logit wr br y) 2 * b2 2 o
        + gate (logit wr br y) 3 * b2 3 o + gate (logit wr br y) 4 * b2 4 o
      = moe wr br w1 b1 w2 b2 y o := by
  have each : ∀ e : Fin 5, (∑ d : Fin 96, hidden w1 b1 y e d * gate (logit wr br y) e * w2 e d o)
      + gate (logit wr br y) e * b2 e o = gate (logit wr br y) e * expert w1 b1 w2 b2 y e o := by
    intro e
    unfold expert
    rcases gate_eq (logit wr br y) e with h | h <;> rw [h] <;> simp
  unfold moe
  rw [Finset.sum_congr rfl fun e _ => (each e).symm, Finset.sum_add_distrib]
  simp only [Fin.sum_univ_five]
  abel

/-- The second kernel's body: what it stores, of its loads. -/
def body (v2 : Vec Ideal S18x226x96 .f32) (v18 : Vec Ideal S864x96 .f32) (v21 : Vec Ideal S1x96 .f32)
    (v25 : Vec Ideal S96x5 .f32) (v27 : Vec Ideal S1x5 .f32) (v78 : Vec Ideal S96x480 .f32) (v81 : Vec Ideal S1x480 .f32)
    (v99 : Vec Ideal S480x96 .f32) (v102 v109 v116 v123 v130 : Vec Ideal S1x96 .f32) : FVec Ideal S1x16x224x96 .f32 :=
  k1_pay1
    (k1_pay15 (k1_pay3 v2 v18 v21 v25 v27) (k1_pay4 v2 v18 v21 v25 v27) k1_pay5 (k1_pay6 v2 v18 v21 v25 v27) k1_pay7)
    (k1_pay18 (k1_pay8 (k1_pay6 v2 v18 v21 v25 v27) k1_pay7)
      (k1_pay10 (k1_pay3 v2 v18 v21 v25 v27) (k1_pay4 v2 v18 v21 v25 v27) k1_pay5 (k1_pay6 v2 v18 v21 v25 v27) k1_pay7)
      (k1_pay12 (k1_pay3 v2 v18 v21 v25 v27) (k1_pay4 v2 v18 v21 v25 v27) k1_pay5 (k1_pay6 v2 v18 v21 v25 v27) k1_pay7)
      (k1_pay14 (k1_pay3 v2 v18 v21 v25 v27) (k1_pay4 v2 v18 v21 v25 v27) k1_pay5 (k1_pay6 v2 v18 v21 v25 v27) k1_pay7)
      (k1_pay15 (k1_pay3 v2 v18 v21 v25 v27) (k1_pay4 v2 v18 v21 v25 v27) k1_pay5 (k1_pay6 v2 v18 v21 v25 v27) k1_pay7)
      (k1_pay16 (k1_pay2 v2 v18 v21) v78) (k1_pay17 v81) v99 v102 v109 v116 v123)
    v130

/-- The five selections at a row of the block are the gates of the row's logits. -/
theorem selections (v2 : Vec Ideal S18x226x96 .f32) (v18 : Vec Ideal S864x96 .f32) (v21 : Vec Ideal S1x96 .f32)
    (v25 : Vec Ideal S96x5 .f32) (v27 : Vec Ideal S1x5 .f32) (r : Fin 3584) :
    k1_pay8 (k1_pay6 v2 v18 v21 v25 v27) k1_pay7 (ix2 r 0)
        = gate (fun e => k1_pay3 v2 v18 v21 v25 v27 (ix2 r e)) 0
      ∧ k1_pay10 (k1_pay3 v2 v18 v21 v25 v27) (k1_pay4 v2 v18 v21 v25 v27) k1_pay5 (k1_pay6 v2 v18 v21 v25 v27) k1_pay7 (ix2 r 0)
        = gate (fun e => k1_pay3 v2 v18 v21 v25 v27 (ix2 r e)) 1
      ∧ k1_pay12 (k1_pay3 v2 v18 v21 v25 v27) (k1_pay4 v2 v18 v21 v25 v27) k1_pay5 (k1_pay6 v2 v18 v21 v25 v27) k1_pay7 (ix2 r 0)
        = gate (fun e => k1_pay3 v2 v18 v21 v25 v27 (ix2 r e)) 2
      ∧ k1_pay14 (k1_pay3 v2 v18 v21 v25 v27) (k1_pay4 v2 v18 v21 v25 v27) k1_pay5 (k1_pay6 v2 v18 v21 v25 v27) k1_pay7 (ix2 r 0)
        = gate (fun e => k1_pay3 v2 v18 v21 v25 v27 (ix2 r e)) 3
      ∧ k1_pay15 (k1_pay3 v2 v18 v21 v25 v27) (k1_pay4 v2 v18 v21 v25 v27) k1_pay5 (k1_pay6 v2 v18 v21 v25 v27) k1_pay7 (ix2 r 0)
        = gate (fun e => k1_pay3 v2 v18 v21 v25 v27 (ix2 r e)) 4 := by
  have hm := greatest_apply v2 v18 v21 v25 v27 r
  have p6 : k1_pay6 v2 v18 v21 v25 v27 (ix2 r 0)
      = if k1_pay3 v2 v18 v21 v25 v27 (ix2 r 0) = k1_pay4 v2 v18 v21 v25 v27 (ix2 r 0) then (1 : EReal) else 0 := by
    pointwise [k1_pay6]
  have p7 : (k1_pay7 : FVec Ideal S3584x1 .f32) (ix2 r 0) = 1 - 0 := by
    pointwise [k1_pay7, k1_pay5]
  generalize k1_pay7 (F := Ideal) = q7 at *
  generalize k1_pay6 v2 v18 v21 v25 v27 = q6 at *
  generalize k1_pay4 v2 v18 v21 v25 v27 = q4 at *
  generalize k1_pay3 v2 v18 v21 v25 v27 = q3 at *
  have t9 : k1_pay9 k1_pay5 q6 q7 (ix2 r 0) = 0 + k1_pay8 q6 q7 (ix2 r 0) := by pointwise [k1_pay9, k1_pay5]
  have t11 : k1_pay11 q3 q4 k1_pay5 q6 q7 (ix2 r 0) = 0 + k1_pay8 q6 q7 (ix2 r 0) + k1_pay10 q3 q4 k1_pay5 q6 q7 (ix2 r 0) := by
    rw [← t9]; pointwise [k1_pay11]
  have t13 : k1_pay13 q3 q4 k1_pay5 q6 q7 (ix2 r 0) = 0 + k1_pay8 q6 q7 (ix2 r 0) + k1_pay10 q3 q4 k1_pay5 q6 q7 (ix2 r 0)
      + k1_pay12 q3 q4 k1_pay5 q6 q7 (ix2 r 0) := by
    rw [← t11]; pointwise [k1_pay13]
  refine gates_chain _ _ hm _ _ _ _ _ ?_ ?_ ?_ ?_ ?_
  · rw [← p6, ← p7]; pointwise [k1_pay8]
  · rw [← t9]; pointwise [k1_pay10]
  · rw [← t11]; pointwise [k1_pay12]
  · rw [← t13]; pointwise [k1_pay14]
  · rw [← t13]; pointwise [k1_pay15]

/-- Five pieces of ninety-six laid side by side, read at position `e * 96 + d`: piece `e` at `d`. -/
theorem five_pieces (f0 f1 f2 f3 f4 : EReal) (e : Fin 5) (d : Fin 96) (n : Nat) (hn : n = e.val * 96 + d.val) :
    (if _h : n < 96 then f0 else if _h : n - 96 < 96 then f1 else if _h : n - 96 - 96 < 96 then f2
      else if _h : n - 96 - 96 - 96 < 96 then f3 else f4) = (![f0, f1, f2, f3, f4] : Fin 5 → EReal) e := by
  obtain ⟨d, hd⟩ := d
  obtain ⟨e, he⟩ := e
  simp only at hn
  interval_cases e
  · rw [dif_pos (by omega)]; rfl
  · rw [dif_neg (by omega), dif_pos (by omega)]; rfl
  · rw [dif_neg (by omega), dif_neg (by omega), dif_pos (by omega)]; rfl
  · rw [dif_neg (by omega), dif_neg (by omega), dif_neg (by omega), dif_pos (by omega)]; rfl
  · rw [dif_neg (by omega), dif_neg (by omega), dif_neg (by omega), dif_neg (by omega)]; rfl

set_option maxHeartbeats 1000000 in
/-- The body's store at a pixel of the block: the leaky rectifier of the mixture at the convolution's channels. -/
theorem body_apply (v2 : Vec Ideal S18x226x96 .f32) (v18 : Vec Ideal S864x96 .f32) (v21 : Vec Ideal S1x96 .f32)
    (v25 : Vec Ideal S96x5 .f32) (v27 : Vec Ideal S1x5 .f32) (v78 : Vec Ideal S96x480 .f32) (v81 : Vec Ideal S1x480 .f32)
    (v99 : Vec Ideal S480x96 .f32) (v102 v109 v116 v123 v130 : Vec Ideal S1x96 .f32)
    (r : Fin 16) (c : Fin 224) (o : Fin 96) :
    body v2 v18 v21 v25 v27 v78 v81 v99 v102 v109 v116 v123 v130 (ix4 0 r c o)
      = leaky (moe (fun c e => v25 (ix2 c e)) (fun e => v27 (ix2 0 e))
          (fun e c d => v78 (ix2 c ⟨e.val * 96 + d.val, by omega⟩)) (fun e d => v81 (ix2 0 ⟨e.val * 96 + d.val, by omega⟩))
          (fun e d o => v99 (ix2 ⟨e.val * 96 + d.val, by omega⟩ o))
          (fun e o => ![v102 (ix2 0 o), v109 (ix2 0 o), v116 (ix2 0 o), v123 (ix2 0 o), v130 (ix2 0 o)] e)
          (fun k => (∑ t : Fin 9, ∑ i : Fin 96,
            v2 (ix3 ⟨r.val + t.val / 3, by omega⟩ ⟨c.val + t.val % 3, by omega⟩ i)
              * v18 (ix2 ⟨t.val * 96 + i.val, by omega⟩ k)) + v21 (ix2 0 k)) o) := by
  obtain ⟨y, hyd⟩ : ∃ y : Fin 96 → EReal, y = fun k => (∑ t : Fin 9, ∑ i : Fin 96,
            v2 (ix3 ⟨r.val + t.val / 3, by omega⟩ ⟨c.val + t.val % 3, by omega⟩ i)
              * v18 (ix2 ⟨t.val * 96 + i.val, by omega⟩ k)) + v21 (ix2 0 k) := ⟨_, rfl⟩
  rw [← hyd]
  have hy : ∀ k, k1_pay2 v2 v18 v21 (ix2 ⟨r.val * 224 + c.val, by omega⟩ k)
      = y k := by
    intro k
    rw [conv_apply]
    have e1 : (r.val * 224 + c.val) / 224 = r.val := by omega
    have e2 : (r.val * 224 + c.val) % 224 = c.val := by omega
    simp only [hyd, e1, e2]
  obtain ⟨g0, g1, g2, g3, g4⟩ := selections v2 v18 v21 v25 v27 ⟨r.val * 224 + c.val, by omega⟩
  have hl : ∀ e, k1_pay3 v2 v18 v21 v25 v27 (ix2 ⟨r.val * 224 + c.val, by omega⟩ e) = _ :=
    fun e => logits_apply v2 v18 v21 v25 v27 ⟨r.val * 224 + c.val, by omega⟩ e
  simp only [hl, hy] at g0 g1 g2 g3 g4
  unfold body
  generalize k1_pay8 (k1_pay6 v2 v18 v21 v25 v27) k1_pay7 = s0 at *
  generalize k1_pay10 (k1_pay3 v2 v18 v21 v25 v27) (k1_pay4 v2 v18 v21 v25 v27) k1_pay5 (k1_pay6 v2 v18 v21 v25 v27) k1_pay7 = s1 at *
  generalize k1_pay12 (k1_pay3 v2 v18 v21 v25 v27) (k1_pay4 v2 v18 v21 v25 v27) k1_pay5 (k1_pay6 v2 v18 v21 v25 v27) k1_pay7 = s2 at *
  generalize k1_pay14 (k1_pay3 v2 v18 v21 v25 v27) (k1_pay4 v2 v18 v21 v25 v27) k1_pay5 (k1_pay6 v2 v18 v21 v25 v27) k1_pay7 = s3 at *
  generalize k1_pay15 (k1_pay3 v2 v18 v21 v25 v27) (k1_pay4 v2 v18 v21 v25 v27) k1_pay5 (k1_pay6 v2 v18 v21 v25 v27) k1_pay7 = s4 at *
  pointwise [k1_pay1, k1_pay16, k1_pay17, k1_pay18]
  simp only [hy, g0, g1, g2, g3, g4]
  rw [← mixture_of_masked, sum_tiles (n := 5) (m := 96) rfl]
  have hm : ∀ (e : Fin 5) (d : Fin 96) (f0 f1 f2 f3 f4 : EReal),
      (if _h : e.val * 96 + d.val < 96 then f0 else if _h : e.val * 96 + d.val - 96 < 96 then f1
        else if _h : e.val * 96 + d.val - 96 - 96 < 96 then f2
        else if _h : e.val * 96 + d.val - 96 - 96 - 96 < 96 then f3 else f4) = (![f0, f1, f2, f3, f4] : Fin 5 → EReal) e :=
    fun e d f0 f1 f2 f3 f4 => five_pieces f0 f1 f2 f3 f4 e d _ rfl
  have hg : ∀ (L : Fin 5 → EReal) (e : Fin 5),
      (![gate L 0, gate L 1, gate L 2, gate L 3, gate L 4] : Fin 5 → EReal) e = gate L e := by
    intro L e; fin_cases e <;> rfl
  simp only [hm, hg]
  rfl

end DeconvMoe.KernelBody
-- ==== Proof.KPrep.lean ====
/-
  The first kernel at an index: the nine rows of blocks it stores are the combined weights' nine taps, and its other
  result is the sum of the five biases.
-/
module

public import proofs.«01_k».proof.Proof.Gen.KernelIdeal.Frame
public import proofs.«01_k».proof.Proof.Spec

@[expose] public section

set_option maxRecDepth 16384

noncomputable section

namespace DeconvMoe.KernelPrep

open Idealize.ShloMosaic Cert.KernelIdeal Cert.KernelIdeal.Gen

/-- The combined weight as one function of the position in the stored array. -/
def combined (x0 x1 : Vec Ideal S9x96x96 .f32) (x2 x3 : Vec Ideal S3x96x96 .f32) (x4 : Vec Ideal S9x96x96 .f32)
    (i o : Fin 96) (t : Fin 9) : EReal :=
  tapWeight (fun t => x0 (ix3 t i o)) (fun t => x1 (ix3 t i o)) (fun k => x2 (ix3 k i o)) (fun k => x3 (ix3 k i o))
    (fun t => x4 (ix3 t i o)) t

/-- A place in the weight array split into its tap and its two channels. -/
def combinedAt (x0 x1 : Vec Ideal S9x96x96 .f32) (x2 x3 : Vec Ideal S3x96x96 .f32) (x4 : Vec Ideal S9x96x96 .f32)
    (j : S864x96.Idx) : EReal :=
  combined x0 x1 x2 x3 x4 ⟨(j 0).val % 96, Nat.mod_lt _ (by decide)⟩ (j 1)
    ⟨(j 0).val / 96, Nat.div_lt_of_lt_mul (j 0).isLt⟩

theorem combinedAt_eq (x0 x1 : Vec Ideal S9x96x96 .f32) (x2 x3 : Vec Ideal S3x96x96 .f32) (x4 : Vec Ideal S9x96x96 .f32)
    (j : S864x96.Idx) (t : Fin 9) (i o : Fin 96) (h0 : (j 0).val = 96 * t.val + i.val) (h1 : (j 1).val = o.val) :
    combinedAt x0 x1 x2 x3 x4 j = combined x0 x1 x2 x3 x4 i o t := by
  unfold combinedAt
  have e0 : (⟨(j 0).val % 96, Nat.mod_lt _ (by decide)⟩ : Fin 96) = i := Fin.ext (by simp only; omega)
  have e1 : (⟨(j 0).val / 96, Nat.div_lt_of_lt_mul (j 0).isLt⟩ : Fin 9) = t := Fin.ext (by simp only; omega)
  have e2 : j 1 = o := Fin.ext h1
  rw [e0, e1, e2]

/-- A corner tap's six terms, in the order the kernel adds them and in the specification's. -/
theorem regroup_corner (a b b' s h v : EReal) : a + b + -b' + s + h + v = a + (b + -b') + h + v + s := by ac_rfl

/-- An edge tap's five terms. -/
theorem regroup_edge (a b b' s h : EReal) : a + b + -b' + s + h = a + (b + -b') + h + s := by ac_rfl

/-- The centre tap's five terms. -/
theorem regroup_centre (a b b' s z : EReal) : a + b + -b' + s + z = a + z + (b + -b') + s := by ac_rfl

set_option maxHeartbeats 2000000 in
/-- The stored array of combined weights, at any place. -/
theorem weights_apply (x0 x1 : Vec Ideal S9x96x96 .f32) (x2 x3 : Vec Ideal S3x96x96 .f32) (x4 : Vec Ideal S9x96x96 .f32)
    (x5 : Vec Ideal S5x96 .f32) (j : S864x96.Idx) :
    out0_6 x0 x1 x2 x3 x4 x5 j = combinedAt x0 x1 x2 x3 x4 j := by
  unfold out0_6
  refine View.canon_apply_of_pieces (Val := Elt Ideal) (e := .f32) (combinedAt x0 x1 x2 x3 x4) _ ?_ j (cover0_6 _ _ _ _ _ _ _ _ _ j)
  simp only [List.forall_mem_cons, List.not_mem_nil, false_imp_iff, implies_true, and_true]
  refine ⟨?_, ?_, ?_, ?_, ?_, ?_, ?_, ?_, ?_⟩ <;> intro x <;>
    obtain ⟨i, o, rfl⟩ : ∃ (i : Fin 96) (o : Fin 96), x = ix2 i o := ⟨x 0, x 1, eq_ix2 x⟩
  · rw [combinedAt_eq x0 x1 x2 x3 x4 _ 8 i o (by first | rfl | simp) (by simp)]
    pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    simp [combined, tapWeight, acrossTap, downTap, turned, sub_eq_add_neg]
    exact regroup_corner _ _ _ _ _ _
  · rw [combinedAt_eq x0 x1 x2 x3 x4 _ 7 i o (by first | rfl | simp) (by simp)]
    pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    simp [combined, tapWeight, acrossTap, downTap, turned, sub_eq_add_neg]
    exact regroup_edge _ _ _ _ _
  · rw [combinedAt_eq x0 x1 x2 x3 x4 _ 6 i o (by first | rfl | simp) (by simp)]
    pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    simp [combined, tapWeight, acrossTap, downTap, turned, sub_eq_add_neg]
    exact regroup_corner _ _ _ _ _ _
  · rw [combinedAt_eq x0 x1 x2 x3 x4 _ 5 i o (by first | rfl | simp) (by simp)]
    pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    simp [combined, tapWeight, acrossTap, downTap, turned, sub_eq_add_neg]
    exact regroup_edge _ _ _ _ _
  · rw [combinedAt_eq x0 x1 x2 x3 x4 _ 4 i o (by first | rfl | simp) (by simp)]
    pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    simp [combined, tapWeight, acrossTap, downTap, turned, sub_eq_add_neg]
    exact regroup_centre _ _ _ _ _
  · rw [combinedAt_eq x0 x1 x2 x3 x4 _ 3 i o (by first | rfl | simp) (by simp)]
    pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    simp [combined, tapWeight, acrossTap, downTap, turned, sub_eq_add_neg]
    exact regroup_edge _ _ _ _ _
  · rw [combinedAt_eq x0 x1 x2 x3 x4 _ 2 i o (by first | rfl | simp) (by simp)]
    pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    simp [combined, tapWeight, acrossTap, downTap, turned, sub_eq_add_neg]
    exact regroup_corner _ _ _ _ _ _
  · rw [combinedAt_eq x0 x1 x2 x3 x4 _ 1 i o (by first | rfl | simp) (by simp)]
    pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    simp [combined, tapWeight, acrossTap, downTap, turned, sub_eq_add_neg]
    exact regroup_edge _ _ _ _ _
  · rw [combinedAt_eq x0 x1 x2 x3 x4 _ 0 i o (by first | rfl | simp) (by simp)]
    pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    simp [combined, tapWeight, acrossTap, downTap, turned, sub_eq_add_neg]
    exact regroup_corner _ _ _ _ _ _

/-- The sum of the five bias rows at channel `o`. -/
def biasOf (x5 : Vec Ideal S5x96 .f32) (o : Fin 96) : EReal :=
  x5 (ix2 0 o) + x5 (ix2 1 o) + x5 (ix2 2 o) + x5 (ix2 3 o) + x5 (ix2 4 o)

set_option maxHeartbeats 1000000 in
/-- The stored bias: the sum of the five rows. -/
theorem bias_apply (x0 x1 : Vec Ideal S9x96x96 .f32) (x2 x3 : Vec Ideal S3x96x96 .f32) (x4 : Vec Ideal S9x96x96 .f32)
    (x5 : Vec Ideal S5x96 .f32) (o : Fin 96) :
    out0_7 x0 x1 x2 x3 x4 x5 (ix2 0 o) = biasOf x5 o := by
  unfold out0_7 biasOf
  rw [View.canon_unit_zero (by funext a; fin_cases a <;> rfl)]
  pointwise [k0_pay2]
  rw [Fin.sum_univ_five]

end DeconvMoe.KernelPrep
-- ==== Proof.KBlock.lean ====
/-
  The arrays the two kernel regions leave: the first region's two results whole, and the second region's result block
  by block.
-/
module

public import proofs.«01_k».proof.Proof.Gen.KernelIdeal.Frame
public import proofs.«01_k».proof.Proof.KBody
public import proofs.«01_k».proof.Proof.KPrep
public import Idealize.ShloMosaic.Lib.Pipeline.ValueKit

@[expose] public section

set_option maxRecDepth 16384

noncomputable section

namespace DeconvMoe.KernelBlock

open Idealize.ShloMosaic Cert.KernelIdeal Cert.KernelIdeal.Gen

variable (V : (c : Dev nD) → (b : Ref sig .tc) → Buf (Elt Ideal) ((c.tc : Thread nD τ).loc b))

/-- The second region's window 0 is at the array's start at every grid point. -/
theorem index1_0 : ∀ t : Fin cfg1.N, win1_0.index t = ![0, 0, 0] :=
  (by decide +kernel : ∀ t : Fin grid1.N, _)

/-- The second region's window 1 is at the array's start at every grid point. -/
theorem index1_1 : ∀ t : Fin cfg1.N, win1_1.index t = ![0, 0] :=
  (by decide +kernel : ∀ t : Fin grid1.N, _)

/-- The second region's window 2 is at the array's start at every grid point. -/
theorem index1_2 : ∀ t : Fin cfg1.N, win1_2.index t = ![0, 0] :=
  (by decide +kernel : ∀ t : Fin grid1.N, _)

/-- The second region's window 3 is at the array's start at every grid point. -/
theorem index1_3 : ∀ t : Fin cfg1.N, win1_3.index t = ![0, 0] :=
  (by decide +kernel : ∀ t : Fin grid1.N, _)

/-- The second region's window 4 is at the array's start at every grid point. -/
theorem index1_4 : ∀ t : Fin cfg1.N, win1_4.index t = ![0, 0] :=
  (by decide +kernel : ∀ t : Fin grid1.N, _)

/-- The second region's window 5 is at the array's start at every grid point. -/
theorem index1_5 : ∀ t : Fin cfg1.N, win1_5.index t = ![0, 0] :=
  (by decide +kernel : ∀ t : Fin grid1.N, _)

/-- The second region's window 6 is at the array's start at every grid point. -/
theorem index1_6 : ∀ t : Fin cfg1.N, win1_6.index t = ![0, 0] :=
  (by decide +kernel : ∀ t : Fin grid1.N, _)

/-- The second region's window 7 is at the array's start at every grid point. -/
theorem index1_7 : ∀ t : Fin cfg1.N, win1_7.index t = ![0, 0] :=
  (by decide +kernel : ∀ t : Fin grid1.N, _)

/-- The second region's window 8 is at the array's start at every grid point. -/
theorem index1_8 : ∀ t : Fin cfg1.N, win1_8.index t = ![0, 0] :=
  (by decide +kernel : ∀ t : Fin grid1.N, _)

/-- The second region's operand 0 is its array whole. -/
theorem block1_0 (c : Dev nD) (t : Fin cfg1.N) : iblk1 V c 0 t = V c main_v16 := by
  blk_ext! [iblk1, index1_0 t]

/-- The second region's operand 1 is its array whole. -/
theorem block1_1 (c : Dev nD) (t : Fin cfg1.N) : iblk1 V c 1 t = V c main_v14_0 := by
  blk_ext! [iblk1, index1_1 t]

/-- The second region's operand 2 is its array whole. -/
theorem block1_2 (c : Dev nD) (t : Fin cfg1.N) : iblk1 V c 2 t = V c main_v14_1 := by
  blk_ext! [iblk1, index1_2 t]

/-- The second region's operand 3 is its array whole. -/
theorem block1_3 (c : Dev nD) (t : Fin cfg1.N) : iblk1 V c 3 t = V c main_arg11 := by
  blk_ext! [iblk1, index1_3 t]

/-- The second region's operand 4 is its array whole. -/
theorem block1_4 (c : Dev nD) (t : Fin cfg1.N) : iblk1 V c 4 t = V c main_v21 := by
  blk_ext! [iblk1, index1_4 t]

/-- The second region's operand 5 is its array whole. -/
theorem block1_5 (c : Dev nD) (t : Fin cfg1.N) : iblk1 V c 5 t = V c main_v18 := by
  blk_ext! [iblk1, index1_5 t]

/-- The second region's operand 6 is its array whole. -/
theorem block1_6 (c : Dev nD) (t : Fin cfg1.N) : iblk1 V c 6 t = V c main_v19 := by
  blk_ext! [iblk1, index1_6 t]

/-- The second region's operand 7 is its array whole. -/
theorem block1_7 (c : Dev nD) (t : Fin cfg1.N) : iblk1 V c 7 t = V c main_v20 := by
  blk_ext! [iblk1, index1_7 t]

/-- The second region's operand 8 is its array whole. -/
theorem block1_8 (c : Dev nD) (t : Fin cfg1.N) : iblk1 V c 8 t = V c main_arg16 := by
  blk_ext! [iblk1, index1_8 t]

/-- The result's block at grid point `t` is the `t`-th group of sixteen rows. -/
theorem index1_9 : ∀ t : Fin cfg1.N, win1_9.index t = ![0, t.val, 0, 0] :=
  (by decide +kernel : ∀ t : Fin grid1.N, _)

/-- The rows loaded at grid point `t` start at row `16 * t` of the bordered image. -/
theorem slab_offset : ∀ t : Fin cfg1.N, k1_off1 (grid1.coords t) = ![16 * t.val, 0, 0] :=
  (by decide +kernel : ∀ t : Fin grid1.N, _)

/-- The result block of one pixel's channels: the leaky rectifier of the mixture at that pixel, of the region's arrays. -/
def pixelOf (xp : Vec Ideal S226x226x96 .f32) (w : Vec Ideal S864x96 .f32) (b : Vec Ideal S1x96 .f32)
    (wr : Vec Ideal S96x5 .f32) (br : Vec Ideal S1x5 .f32) (w1 : Vec Ideal S96x480 .f32) (b1 : Vec Ideal S1x480 .f32)
    (w2 : Vec Ideal S480x96 .f32) (b2 : Vec Ideal S5x96 .f32) (r c : Fin 224) (o : Fin 96) : EReal :=
  leaky (moe (fun c e => wr (ix2 c e)) (fun e => br (ix2 0 e))
    (fun e c d => w1 (ix2 c ⟨e.val * 96 + d.val, by omega⟩)) (fun e d => b1 (ix2 0 ⟨e.val * 96 + d.val, by omega⟩))
    (fun e d o => w2 (ix2 ⟨e.val * 96 + d.val, by omega⟩ o)) (fun e o => b2 (ix2 e o))
    (conv (fun r c i => xp (ix3 r c i)) (fun t i o => w (ix2 ⟨t.val * 96 + i.val, by omega⟩ o)) (fun o => b (ix2 0 o))
      r c) o)

/-- `pixelOf` of arrays that hold the image, the weights and the biases in their stored layouts is `moe` of the convolution's
    features, rectified. -/
theorem pixelOf_eq {xp : Vec Ideal S226x226x96 .f32} {w : Vec Ideal S864x96 .f32} {b : Vec Ideal S1x96 .f32}
    {wr : Vec Ideal S96x5 .f32} {br : Vec Ideal S1x5 .f32} {w1 : Vec Ideal S96x480 .f32} {b1 : Vec Ideal S1x480 .f32}
    {w2 : Vec Ideal S480x96 .f32} {b2 : Vec Ideal S5x96 .f32}
    {xp' : Fin 226 → Fin 226 → Fin 96 → EReal} {w' : Fin 9 → Fin 96 → Fin 96 → EReal} {b' : Fin 96 → EReal}
    {wr' : Fin 96 → Fin 5 → EReal} {br' : Fin 5 → EReal} {w1' : Fin 5 → Fin 96 → Fin 96 → EReal}
    {b1' : Fin 5 → Fin 96 → EReal} {w2' : Fin 5 → Fin 96 → Fin 96 → EReal} {b2' : Fin 5 → Fin 96 → EReal}
    (hxp : ∀ r c i, xp (ix3 r c i) = xp' r c i)
    (hw : ∀ (t : Fin 9) (i o : Fin 96), w (ix2 ⟨t.val * 96 + i.val, by omega⟩ o) = w' t i o)
    (hb : ∀ o, b (ix2 0 o) = b' o) (hwr : ∀ i e, wr (ix2 i e) = wr' i e) (hbr : ∀ e, br (ix2 0 e) = br' e)
    (hw1 : ∀ (e : Fin 5) (i d : Fin 96), w1 (ix2 i ⟨e.val * 96 + d.val, by omega⟩) = w1' e i d)
    (hb1 : ∀ (e : Fin 5) (d : Fin 96), b1 (ix2 0 ⟨e.val * 96 + d.val, by omega⟩) = b1' e d)
    (hw2 : ∀ (e : Fin 5) (d o : Fin 96), w2 (ix2 ⟨e.val * 96 + d.val, by omega⟩ o) = w2' e d o)
    (hb2 : ∀ e o, b2 (ix2 e o) = b2' e o) (r c : Fin 224) (o : Fin 96) :
    pixelOf xp w b wr br w1 b1 w2 b2 r c o = leaky (moe wr' br' w1' b1' w2' b2' (conv xp' w' b' r c) o) := by
  obtain rfl : (fun r c i => xp (ix3 r c i)) = xp' := funext fun r => funext fun c => funext fun i => hxp r c i
  obtain rfl : (fun (t : Fin 9) (i o : Fin 96) => w (ix2 ⟨t.val * 96 + i.val, by omega⟩ o)) = w' :=
    funext fun t => funext fun i => funext fun o => hw t i o
  obtain rfl : (fun o => b (ix2 0 o)) = b' := funext hb
  obtain rfl : (fun i e => wr (ix2 i e)) = wr' := funext fun i => funext fun e => hwr i e
  obtain rfl : (fun e => br (ix2 0 e)) = br' := funext hbr
  obtain rfl : (fun (e : Fin 5) (i d : Fin 96) => w1 (ix2 i ⟨e.val * 96 + d.val, by omega⟩)) = w1' :=
    funext fun e => funext fun i => funext fun d => hw1 e i d
  obtain rfl : (fun (e : Fin 5) (d : Fin 96) => b1 (ix2 0 ⟨e.val * 96 + d.val, by omega⟩)) = b1' :=
    funext fun e => funext fun d => hb1 e d
  obtain rfl : (fun (e : Fin 5) (d o : Fin 96) => w2 (ix2 ⟨e.val * 96 + d.val, by omega⟩ o)) = w2' :=
    funext fun e => funext fun d => funext fun o => hw2 e d o
  obtain rfl : (fun e o => b2 (ix2 e o)) = b2' := funext fun e => funext fun o => hb2 e o
  rfl

set_option maxHeartbeats 1000000 in
/-- What the body leaves at grid point `t`: sixteen rows of the result, from row `16 * t` on. -/
theorem outsAt1_apply (c : Dev nD) (t : Fin cfg1.N) (r : Fin 16) (col : Fin 224) (o : Fin 96) (r' : Fin 224)
    (hr : r'.val = 16 * t.val + r.val) :
    outsAt1 V c t (ix4 0 r col o)
      = pixelOf (V c main_v16) (V c main_v14_0) (V c main_v14_1) (V c main_arg11) (V c main_v21) (V c main_v18)
          (V c main_v19) (V c main_v20) (V c main_arg16) r' col o := by
  unfold outsAt1
  frame_out
  rw [block1_0, block1_1, block1_2, block1_3, block1_4, block1_5, block1_6, block1_7, block1_8]
  refine (KernelBody.body_apply _ _ _ _ _ _ _ _ _ _ _ _ _ r col o).trans ?_
  unfold pixelOf
  have hs : ∀ (u v : Fin 9) (i : Fin 96), View.ld (V c main_v16) (Rect.unit (s := S226x226x96) (k1_off1 (grid1.coords t)) S18x226x96.size
      (k1_off1_inb (grid1.coords t))) (ix3 ⟨r.val + u.val / 3, by omega⟩ ⟨col.val + v.val % 3, by omega⟩ i)
      = V c main_v16 (ix3 ⟨r'.val + u.val / 3, by omega⟩ ⟨col.val + v.val % 3, by omega⟩ i) := by
    intro u v i
    show V c main_v16 _ = _
    refine congrArg (V c main_v16) ?_
    funext a
    refine Fin.ext ?_
    have hk := congrFun (slab_offset t) a
    fin_cases a
    all_goals simp at hk
    all_goals simp [Rect.emb, hk]
    all_goals omega
  congr 2
  · funext e o'
    fin_cases e <;> (refine congrArg (V c main_arg16) ?_; funext a; fin_cases a <;> exact Fin.ext (by simp [Rect.emb]))
  · funext k
    exact congrArg (· + V c main_v14_1 (ix2 0 k)) (Finset.sum_congr rfl fun u _ => Finset.sum_congr rfl fun i _ =>
      congrArg (· * V c main_v14_0 (ix2 ⟨u.val * 96 + i.val, by omega⟩ k)) (hs u u i))

/-- The first region's window 0 is at the array's start. -/
theorem index0_0 : ∀ t : Fin cfg0.N, win0_0.index t = ![0, 0, 0] :=
  (by decide +kernel : ∀ t : Fin grid0.N, _)

/-- The first region's window 1 is at the array's start. -/
theorem index0_1 : ∀ t : Fin cfg0.N, win0_1.index t = ![0, 0, 0] :=
  (by decide +kernel : ∀ t : Fin grid0.N, _)

/-- The first region's window 2 is at the array's start. -/
theorem index0_2 : ∀ t : Fin cfg0.N, win0_2.index t = ![0, 0, 0] :=
  (by decide +kernel : ∀ t : Fin grid0.N, _)

/-- The first region's window 3 is at the array's start. -/
theorem index0_3 : ∀ t : Fin cfg0.N, win0_3.index t = ![0, 0, 0] :=
  (by decide +kernel : ∀ t : Fin grid0.N, _)

/-- The first region's window 4 is at the array's start. -/
theorem index0_4 : ∀ t : Fin cfg0.N, win0_4.index t = ![0, 0, 0] :=
  (by decide +kernel : ∀ t : Fin grid0.N, _)

/-- The first region's window 5 is at the array's start. -/
theorem index0_5 : ∀ t : Fin cfg0.N, win0_5.index t = ![0, 0] :=
  (by decide +kernel : ∀ t : Fin grid0.N, _)

/-- The first region's window 6 is at the array's start. -/
theorem index0_6 : ∀ t : Fin cfg0.N, win0_6.index t = ![0, 0] :=
  (by decide +kernel : ∀ t : Fin grid0.N, _)

/-- The first region's window 7 is at the array's start. -/
theorem index0_7 : ∀ t : Fin cfg0.N, win0_7.index t = ![0, 0] :=
  (by decide +kernel : ∀ t : Fin grid0.N, _)

/-- The first region's operand 0 is its array whole. -/
theorem block0_0 (c : Dev nD) (t : Fin cfg0.N) : iblk0 V c 0 t = V c main_v1 := by
  blk_ext! [iblk0, index0_0 t]

/-- The first region's operand 1 is its array whole. -/
theorem block0_1 (c : Dev nD) (t : Fin cfg0.N) : iblk0 V c 1 t = V c main_v3 := by
  blk_ext! [iblk0, index0_1 t]

/-- The first region's operand 2 is its array whole. -/
theorem block0_2 (c : Dev nD) (t : Fin cfg0.N) : iblk0 V c 2 t = V c main_v6 := by
  blk_ext! [iblk0, index0_2 t]

/-- The first region's operand 3 is its array whole. -/
theorem block0_3 (c : Dev nD) (t : Fin cfg0.N) : iblk0 V c 3 t = V c main_v7 := by
  blk_ext! [iblk0, index0_3 t]

/-- The first region's operand 4 is its array whole. -/
theorem block0_4 (c : Dev nD) (t : Fin cfg0.N) : iblk0 V c 4 t = V c main_v5 := by
  blk_ext! [iblk0, index0_4 t]

/-- The first region's operand 5 is its array whole. -/
theorem block0_5 (c : Dev nD) (t : Fin cfg0.N) : iblk0 V c 5 t = V c main_v13 := by
  blk_ext! [iblk0, index0_5 t]

/-- The first region leaves the combined weights in its first result. -/
theorem region0_weights (c : Dev nD) :
    (dat0 V c).arrAt 6 cfg0.N
      = KernelPrep.combinedAt (V c main_v1) (V c main_v3) (V c main_v6) (V c main_v7) (V c main_v5) := by
  refine (dat0 V c).arrAt_eq_of_covers 6 _ (by decide +kernel) fun t hf y => ?_
  blk_simp
  rw [after0_6, block0_0, block0_1, block0_2, block0_3, block0_4]
  refine (KernelPrep.weights_apply _ _ _ _ _ _ _).trans (congrArg _ ?_)
  blk_ext [index0_6 t]

/-- The first region leaves the sum of the five bias rows in its second result. -/
theorem region0_bias (c : Dev nD) :
    (dat0 V c).arrAt 7 cfg0.N = fun j : S1x96.Idx => KernelPrep.biasOf (V c main_v13) (j 1) := by
  refine (dat0 V c).arrAt_eq_of_covers 7 _ (by decide +kernel) fun t hf y => ?_
  blk_simp
  rw [after0_7, block0_5]
  obtain ⟨z, o, rfl⟩ : ∃ (z : Fin 1) (o : Fin 96), y = ix2 z o := ⟨y 0, y 1, eq_ix2 y⟩
  obtain rfl : z = 0 := Subsingleton.elim _ _
  refine (KernelPrep.bias_apply _ _ _ _ _ _ o).trans ?_
  have e : ((win0_7.blk t).view.emb (ix2 0 o : S1x96.Idx)) 1 = o := Fin.ext (by blk_simp [index0_7 t])
  rw [e]

/-- The second region leaves `pixelOf` of its operands everywhere in the result. -/
theorem region1_result (c : Dev nD) :
    (dat1 V c).arrAt 9 cfg1.N = fun j : S1x224x224x96.Idx =>
      pixelOf (V c main_v16) (V c main_v14_0) (V c main_v14_1) (V c main_arg11) (V c main_v21) (V c main_v18)
        (V c main_v19) (V c main_v20) (V c main_arg16) (j 1) (j 2) (j 3) := by
  refine (dat1 V c).arrAt_eq_of_covers 9 _ (by decide +kernel) fun t hf y => ?_
  blk_simp
  rw [after1_9]
  obtain ⟨z, r, col, o, rfl⟩ : ∃ (z : Fin 1) (r : Fin 16) (col : Fin 224) (o : Fin 96), y = ix4 z r col o :=
    ⟨y 0, y 1, y 2, y 3, eq_ix4 y⟩
  obtain rfl : z = 0 := Subsingleton.elim _ _
  have e2 : ((win1_9.blk t).view.emb (ix4 0 r col o : S1x16x224x96.Idx)) 2 = col := Fin.ext (by blk_simp [index1_9 t])
  have e3 : ((win1_9.blk t).view.emb (ix4 0 r col o : S1x16x224x96.Idx)) 3 = o := Fin.ext (by blk_simp [index1_9 t])
  rw [e2, e3]
  exact outsAt1_apply V c t r col o _ (by blk_simp [index1_9 t]; simp; omega)

end DeconvMoe.KernelBlock
-- ==== Proof.KValue.lean ====
/-
  The kernel's run read off its arguments: what the host lays out before each region, and the result array as `pixel`
  of the seventeen arguments at every place.
-/
module

public import proofs.«01_k».proof.Proof.KBlock
public import Idealize.ShloMosaic.Lib.Claim

@[expose] public section

set_option maxRecDepth 16384

noncomputable section

namespace DeconvMoe.KernelValue

open Idealize.ShloMosaic Idealize.SL.Sem Cert.KernelIdeal Cert.KernelIdeal.Gen

variable (m : (l : Loc nD τ sig) → Buf (Elt Ideal) l) (ρ : Dev nD → PrngReg)

/-- The central-difference weights laid out tap first. -/
theorem entry_v1 (c : Dev nD) (t : Fin 9) (i o : Fin 96) :
    V1 m ρ c main_v1 (ix3 t i o)
      = m ((c.tc : Thread nD τ).loc main_arg1) (ix4 o i ⟨t.val / 3, by omega⟩ ⟨t.val % 3, by omega⟩) := by
  unfold_abbrev_sides
  after_results
  pointwise

/-- The angular-difference weights laid out tap first. -/
theorem entry_v3 (c : Dev nD) (t : Fin 9) (i o : Fin 96) :
    V1 m ρ c main_v3 (ix3 t i o)
      = m ((c.tc : Thread nD τ).loc main_arg7) (ix4 o i ⟨t.val / 3, by omega⟩ ⟨t.val % 3, by omega⟩) := by
  unfold_abbrev_sides
  after_results
  pointwise

/-- The standard weights laid out tap first. -/
theorem entry_v5 (c : Dev nD) (t : Fin 9) (i o : Fin 96) :
    V1 m ρ c main_v5 (ix3 t i o)
      = m ((c.tc : Thread nD τ).loc main_arg9) (ix4 o i ⟨t.val / 3, by omega⟩ ⟨t.val % 3, by omega⟩) := by
  unfold_abbrev_sides
  after_results
  pointwise

/-- The horizontal-difference weights laid out tap first. -/
theorem entry_v6 (c : Dev nD) (k : Fin 3) (i o : Fin 96) :
    V1 m ρ c main_v6 (ix3 k i o) = m ((c.tc : Thread nD τ).loc main_arg3) (ix3 o i k) := by
  unfold_abbrev_sides
  after_results
  pointwise

/-- The vertical-difference weights laid out tap first. -/
theorem entry_v7 (c : Dev nD) (k : Fin 3) (i o : Fin 96) :
    V1 m ρ c main_v7 (ix3 k i o) = m ((c.tc : Thread nD τ).loc main_arg5) (ix3 o i k) := by
  unfold_abbrev_sides
  after_results
  pointwise

/-- Equal parts give an equal combined weight. -/
theorem tapWeight_congr {cd cd' ad ad' st st' : Fin 9 → EReal} {hd hd' vd vd' : Fin 3 → EReal} (h1 : ∀ t, cd t = cd' t)
    (h2 : ∀ t, ad t = ad' t) (h3 : ∀ k, hd k = hd' k) (h4 : ∀ k, vd k = vd' k) (h5 : ∀ t, st t = st' t) (t : Fin 9) :
    tapWeight cd ad hd vd st t = tapWeight cd' ad' hd' vd' st' t := by
  rw [funext h1, funext h2, funext h3, funext h4, funext h5]

/-- The five biases stacked as rows. -/
theorem entry_v13 (c : Dev nD) (b : Fin 5) (o : Fin 96) :
    V1 m ρ c main_v13 (ix2 b o) = (![m ((c.tc : Thread nD τ).loc main_arg2) (ix1 o), m ((c.tc : Thread nD τ).loc main_arg4) (ix1 o), m ((c.tc : Thread nD τ).loc main_arg6) (ix1 o), m ((c.tc : Thread nD τ).loc main_arg8) (ix1 o), m ((c.tc : Thread nD τ).loc main_arg10) (ix1 o)] : Fin 5 → EReal) b := by
  unfold_abbrev_sides
  after_results
  pointwise
  fin_cases b
  all_goals simp
  all_goals after_results_loop
  all_goals pointwise
  all_goals rfl

/-- The five bias rows summed. -/
theorem entry_bias (c : Dev nD) (o : Fin 96) :
    KernelPrep.biasOf (V1 m ρ c main_v13) o
      = biases (m ((c.tc : Thread nD τ).loc main_arg2)) (m ((c.tc : Thread nD τ).loc main_arg4)) (m ((c.tc : Thread nD τ).loc main_arg6)) (m ((c.tc : Thread nD τ).loc main_arg8)) (m ((c.tc : Thread nD τ).loc main_arg10)) o := by
  unfold KernelPrep.biasOf biases
  rw [entry_v13, entry_v13, entry_v13, entry_v13, entry_v13]
  rfl

/-- The second region finds the combined weights as the first left them. -/
theorem entry_v14_0 (c : Dev nD) (t : Fin 9) (i o : Fin 96) :
    V5 m ρ c main_v14_0 (ix2 ⟨t.val * 96 + i.val, by omega⟩ o)
      = weights (m ((c.tc : Thread nD τ).loc main_arg1)) (m ((c.tc : Thread nD τ).loc main_arg3))
          (m ((c.tc : Thread nD τ).loc main_arg5)) (m ((c.tc : Thread nD τ).loc main_arg7))
          (m ((c.tc : Thread nD τ).loc main_arg9)) t i o := by
  have e : V5 m ρ c main_v14_0 = (dat0 (V1 m ρ) c).arrAt 6 cfg0.N :=
    (W5_of m ρ c main_v14_0 (by decide)).trans ((W4_of m ρ c main_v14_0 (by decide)).trans
      ((W3_of m ρ c main_v14_0 (by decide)).trans (W2_arr m ρ c 6)))
  rw [e, KernelBlock.region0_weights, KernelPrep.combinedAt_eq _ _ _ _ _ _ t i o (by change t.val * 96 + i.val = _; omega) rfl]
  unfold KernelPrep.combined weights
  exact tapWeight_congr (entry_v1 m ρ c · i o) (entry_v3 m ρ c · i o) (entry_v6 m ρ c · i o) (entry_v7 m ρ c · i o)
    (entry_v5 m ρ c · i o) t

/-- The second region finds the summed bias as the first left it. -/
theorem entry_v14_1 (c : Dev nD) (o : Fin 96) :
    V5 m ρ c main_v14_1 (ix2 0 o)
      = biases (m ((c.tc : Thread nD τ).loc main_arg2)) (m ((c.tc : Thread nD τ).loc main_arg4)) (m ((c.tc : Thread nD τ).loc main_arg6)) (m ((c.tc : Thread nD τ).loc main_arg8)) (m ((c.tc : Thread nD τ).loc main_arg10)) o := by
  have e : V5 m ρ c main_v14_1 = (dat0 (V1 m ρ) c).arrAt 7 cfg0.N :=
    (W5_of m ρ c main_v14_1 (by decide)).trans ((W4_of m ρ c main_v14_1 (by decide)).trans
      ((W3_of m ρ c main_v14_1 (by decide)).trans (W2_arr m ρ c 7)))
  rw [e, KernelBlock.region0_bias]
  exact entry_bias m ρ c o

/-- Padding the image by one zero pixel on each side gives it its border. -/
theorem pad_bordered (x : Vec Ideal S1x224x224x96 .f32) (r col : Fin 226) (i : Fin 96) :
    pad S226x226x96 ![1, 1, 0] ![1, 1, 0] ![0, 0, 0] (shapeCast S224x224x96 x shapeCasts_S1x224x224x96_S224x224x96)
        (sitofp (F := Ideal) FTy.f32 (constantI S_ 32 0#32)) pads_S224x224x96_S226x226x96_110_110_000 h_S_ (ix3 r col i)
      = bordered (fun r col i => x (ix4 0 r col i)) r col i := by
  pointwise
  unfold bordered
  by_cases h : (1 ≤ r.val ∧ r.val < 225) ∧ 1 ≤ col.val ∧ col.val < 225
  · rw [dif_pos h, dif_pos (by omega)]
  · rw [dif_neg h, dif_neg (by omega)]
    exact (Ideal.scalar_sitofp_def (φ := .f32) 0#32).trans (by simp)

/-- The image with its border of zeros. -/
theorem entry_v16 (c : Dev nD) (r col : Fin 226) (i : Fin 96) :
    V5 m ρ c main_v16 (ix3 r col i)
      = bordered (fun r col i => m ((c.tc : Thread nD τ).loc main_arg0) (ix4 0 r col i)) r col i := by
  unfold_abbrev_sides
  after_results
  rw [W2_args m ρ c main_arg0 (by decide)]
  exact pad_bordered _ r col i

/-- The experts' first weights, side by side. -/
theorem entry_v18 (c : Dev nD) (e : Fin 5) (i d : Fin 96) :
    V5 m ρ c main_v18 (ix2 i ⟨e.val * 96 + d.val, by omega⟩) = m ((c.tc : Thread nD τ).loc main_arg13) (ix3 e i d) := by
  unfold_abbrev_sides
  after_results
  rw [W2_args m ρ c main_arg13 (by decide)]
  pointwise

/-- The experts' first biases, side by side. -/
theorem entry_v19 (c : Dev nD) (e : Fin 5) (d : Fin 96) :
    V5 m ρ c main_v19 (ix2 0 ⟨e.val * 96 + d.val, by omega⟩) = m ((c.tc : Thread nD τ).loc main_arg14) (ix2 e d) := by
  unfold_abbrev_sides
  after_results
  rw [W2_args m ρ c main_arg14 (by decide)]
  pointwise

/-- The experts' second weights, stacked. -/
theorem entry_v20 (c : Dev nD) (e : Fin 5) (d o : Fin 96) :
    V5 m ρ c main_v20 (ix2 ⟨e.val * 96 + d.val, by omega⟩ o) = m ((c.tc : Thread nD τ).loc main_arg15) (ix3 e d o) := by
  unfold_abbrev_sides
  after_results
  rw [W2_args m ρ c main_arg15 (by decide)]
  pointwise

/-- The router's bias as a row. -/
theorem entry_v21 (c : Dev nD) (e : Fin 5) :
    V5 m ρ c main_v21 (ix2 0 e) = m ((c.tc : Thread nD τ).loc main_arg12) (ix1 e) := by
  unfold_abbrev_sides
  after_results
  rw [W2_args m ρ c main_arg12 (by decide)]
  pointwise

/-- The array of `pixel` over the seventeen arguments in memory. -/
def output (c : Dev nD) : S1x224x224x96.Idx → EReal := fun j =>
  pixel (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13))
        (m ((c.tc : Thread nD τ).loc main_arg14)) (m ((c.tc : Thread nD τ).loc main_arg15)) (m ((c.tc : Thread nD τ).loc main_arg16)) (j 1) (j 2) (j 3)

/-- The array the kernel leaves: `pixel` of its seventeen arguments at every place. -/
theorem result (c : Dev nD) : W6 m ρ c (Proc.devRef .tc main_v22) = output m c := by
  refine ((W6_arr m ρ c 9).trans (KernelBlock.region1_result (V5 m ρ) c)).trans ?_
  funext j
  exact KernelBlock.pixelOf_eq (entry_v16 m ρ c) (entry_v14_0 m ρ c) (entry_v14_1 m ρ c)
    (fun i e => congrFun (W5_args m ρ c main_arg11 (by decide)) _) (entry_v21 m ρ c) (entry_v18 m ρ c)
    (entry_v19 m ρ c) (entry_v20 m ρ c) (fun e o => congrFun (W5_args m ρ c main_arg16 (by decide)) _) (j 1) (j 2) (j 3)

open Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.ShloMosaic.Rounds

local notation "𝕄" => MT nD τ sig Unit (Elt Ideal) ℕ (UR sig nD τ) ℕ

set_option backward.isDefEq.respectTransparency.types false in
/-- Every run of the kernel ends with `output` in the result's buffer and the seventeen arguments as they were: the
    launch over the same segments as the frame, with the result read as well. -/
theorem run : θ_run defs (onTc (τ := τ) (main (F := Ideal))) ⟨m, fun _ => 0, ρ⟩ (fun r => ∀ c : Dev nD,
      r.2.mem ((c.tc : Thread nD τ).loc main_v22) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨(h c _ (mem_uc main_v22 (by decide))).trans (result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c)⟩)

end DeconvMoe.KernelValue
-- ==== Proof.RConv.lean ====
/-
  The reference's convolution: its combined weights, summed biases and padded image are those of Spec, and what it
  leaves before the mixture of experts is `features`.
-/
module

public import proofs.«01_k».proof.Proof.Spec
public import proofs.«01_k».proof.Proof.Gen.ReferenceIdeal.Read

@[expose] public section

set_option maxRecDepth 16384

noncomputable section

namespace DeconvMoe.ReferenceConv

open Idealize.ShloMosaic Cert.ReferenceIdeal Cert.ReferenceIdeal.Gen Cert.ReferenceIdeal.Read

variable (x0 : Vec Ideal S1x224x224x96 .f32) (x1 x7 x9 : Vec Ideal S96x96x3x3 .f32) (x3 x5 : Vec Ideal S96x96x3 .f32)
  (x2 x4 x6 x8 x10 : Vec Ideal S96 .f32)

/-- The central difference's weight at a tap: the given one, less the sum of all nine at the middle. -/
theorem central_apply (o i : Fin 96) (t : Fin 9) :
    val_main_v14 (F := Ideal) x1 (ix3 o i t)
      = x1 (ix4 o i ⟨t.val / 3, by omega⟩ ⟨t.val % 3, by omega⟩)
        + (if t = 4 then -∑ k : Fin 9, x1 (ix4 o i ⟨k.val / 3, by omega⟩ ⟨k.val % 3, by omega⟩) else 0) := by
  pointwise [val_main_v0, val_main_cst, val_main_v1, val_main_cst_0, val_main_v2, val_main_v3, val_main_v4, val_main_v5, val_main_v6, val_main_v7, val_main_v8, val_main_v9, val_main_v10, val_main_v11, val_main_v12, val_main_v13, val_main_v14]
  fin_cases t <;> rfl

/-- The angular difference's weight at a tap: the given one, less the one a turn away. -/
theorem angular_apply (o i : Fin 96) (t : Fin 9) :
    val_main_v44 (F := Ideal) x7 (ix3 o i t)
      = x7 (ix4 o i ⟨t.val / 3, by omega⟩ ⟨t.val % 3, by omega⟩)
        - x7 (ix4 o i ⟨(turned t).val / 3, by omega⟩ ⟨(turned t).val % 3, by omega⟩) := by
  pointwise [val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44]
  fin_cases t <;> rfl

/-- The horizontal difference's weight at a tap. -/
theorem across_apply (o i : Fin 96) (t : Fin 9) :
    val_main_v63 (F := Ideal) x3 (ix3 o i t) = acrossTap (fun k => x3 (ix3 o i k)) t := by
  pointwise [val_main_cst_0, val_main_v2, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63]
  fin_cases t <;> rfl

/-- The vertical difference's weight at a tap. -/
theorem down_apply (o i : Fin 96) (t : Fin 9) :
    val_main_v82 (F := Ideal) x5 (ix3 o i t) = downTap (fun k => x5 (ix3 o i k)) t := by
  pointwise [val_main_cst_0, val_main_v2, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82]
  fin_cases t <;> rfl

/-- The five weights combined, at the window's row and column. -/
theorem weights_apply (o i : Fin 96) (kh kw : Fin 3) :
    val_main_v87 (F := Ideal) x1 x3 x5 x7 x9 (ix4 o i kh kw)
      = weights x1 x3 x5 x7 x9 ⟨kh.val * 3 + kw.val, by omega⟩ i o := by
  pointwise [val_main_v83, val_main_v84, val_main_v85, val_main_v86, val_main_v87]
  rw [central_apply, angular_apply, across_apply, down_apply]
  unfold weights tapWeight
  have e : x9 (ix4 o i ⟨(⟨kh.val * 3 + kw.val, by omega⟩ : Fin 9).val / 3, by simp only; omega⟩
      ⟨(⟨kh.val * 3 + kw.val, by omega⟩ : Fin 9).val % 3, by omega⟩) = x9 (ix4 o i kh kw) :=
    congrArg x9 ((ix4_inj _ _ _ _ _ _ _ _).2 ⟨rfl, rfl, Fin.ext (by simp only; omega), Fin.ext (by simp only; omega)⟩)
  exact congrArg _ e.symm

/-- The five biases summed. -/
theorem biases_apply (o : Fin 96) : val_main_v91 (F := Ideal) x2 x4 x6 x8 x10 (ix1 o) = biases x2 x4 x6 x8 x10 o := by
  unfold biases
  pointwise [val_main_v88, val_main_v89, val_main_v90, val_main_v91]

/-- The image padded by one zero pixel. -/
theorem padded_apply (r c : Fin 226) (i : Fin 96) :
    val_main_v92 (F := Ideal) x0 (ix4 0 r c i) = bordered (fun r c i => x0 (ix4 0 r c i)) r c i := by
  pointwise [val_main_c, val_main_call0_v0, val_main_v92]
  unfold bordered
  by_cases h : (1 ≤ r.val ∧ r.val < 225) ∧ 1 ≤ c.val ∧ c.val < 225
  · rw [dif_pos h, dif_pos (by omega)]
  · rw [dif_neg h, dif_neg (by omega)]
    exact (Ideal.scalar_sitofp_def (φ := .f32) 0#32).trans (by simp)

/-- Nine terms added one after the other are their sum. -/
theorem nine_terms (f : Fin 9 → EReal) {a0 a1 a2 a3 a4 a5 a6 a7 a8 : EReal} (h0 : a0 = f 0) (h1 : a1 = f 1)
    (h2 : a2 = f 2) (h3 : a3 = f 3) (h4 : a4 = f 4) (h5 : a5 = f 5) (h6 : a6 = f 6) (h7 : a7 = f 7) (h8 : a8 = f 8) :
    a0 + a1 + a2 + a3 + a4 + a5 + a6 + a7 + a8 = ∑ t, f t := by
  rw [Fin.sum_univ_castSucc, Fin.sum_univ_eight, h0, h1, h2, h3, h4, h5, h6, h7, h8]
  rfl

/-- What the convolution leaves at a pixel: `features`. -/
theorem features_apply (r c : Fin 224) (o : Fin 96) :
    val_main_v141 (F := Ideal) x0 x1 x2 x3 x4 x5 x6 x7 x8 x9 x10 (ix4 0 r c o)
      = features x0 x1 x2 x3 x4 x5 x6 x7 x8 x9 x10 r c o := by
  pointwise [val_main_cst_1, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141]
  simp only [padded_apply, weights_apply, biases_apply]
  unfold features conv
  refine congrArg (· + biases x2 x4 x6 x8 x10 o) (nine_terms _ ?_ ?_ ?_ ?_ ?_ ?_ ?_ ?_ ?_)
  all_goals
    refine Finset.sum_congr rfl fun i _ => ?_
    refine congrArg₂ (fun p q => p * q) (congrArg₂ (fun r' c' => bordered (fun r c i => x0 (ix4 0 r c i)) r' c' i) ?_ ?_)
      (congrArg (fun t => weights x1 x3 x5 x7 x9 t i o) (Fin.ext rfl))
  all_goals exact Fin.ext (by first | rfl | (simp; done) | (simp; omega))

end DeconvMoe.ReferenceConv
-- ==== Proof.RTop.lean ====
/-
  The reference's routing at one pixel: what a stable sort puts first, what the softmax of a row with one finite entry
  is, and that the logits are finite when the arrays they are computed from are.
-/
module

public import proofs.«01_k».proof.Proof.Spec
public import Idealize.ShloMosaic.PureOps.Ideal.Laws

@[expose] public section

set_option maxRecDepth 16384

noncomputable section

namespace DeconvMoe.Routing

open Idealize.ShloMosaic

/-! ## The first of a stable sort -/

/-- The head of a stable sort, greater first, of positions in increasing order is the first position of the greatest key. -/
theorem head_stableSort {n : Nat} (key : Fin n → EReal) (before : Fin n → Fin n → Bool)
    (hb : ∀ k k', before k k' = decide (key k' < key k)) (l : List (Fin n)) (hl : l.Pairwise (· < ·)) (hne : l ≠ []) :
    ∃ a rest, stableSort before l = a :: rest ∧ a ∈ l ∧ (∀ b ∈ l, key b ≤ key a) ∧ ∀ b ∈ l, b < a → key b < key a := by
  induction l with
  | nil => exact absurd rfl hne
  | cons x l ih =>
    rw [List.pairwise_cons] at hl
    by_cases h0 : l = []
    · subst h0
      exact ⟨x, [], rfl, by simp, by simp, by simp⟩
    · obtain ⟨a, rest, hs, ha, hge, hgt⟩ := ih hl.2 h0
      unfold stableSort
      rw [hs]
      unfold insertBefore
      rw [hb]
      by_cases hx : key x < key a
      · refine ⟨a, _, by rw [if_pos (by simpa using hx)], List.mem_cons_of_mem _ ha, ?_, ?_⟩
        · intro b hb'
          rcases List.mem_cons.1 hb' with rfl | h
          · exact hx.le
          · exact hge b h
        · intro b hb' hlt
          rcases List.mem_cons.1 hb' with rfl | h
          · exact hx
          · exact hgt b h hlt
      · refine ⟨x, _, by rw [if_neg (by simpa using hx)], List.mem_cons_self, ?_, ?_⟩
        · intro b hb'
          rcases List.mem_cons.1 hb' with rfl | h
          · exact le_rfl
          · exact (hge b h).trans (not_lt.1 hx)
        · intro b hb' hlt
          rcases List.mem_cons.1 hb' with rfl | h
          · exact absurd hlt (lt_irrefl _)
          · exact absurd (hl.1 b h) (not_lt.2 hlt.le)

/-- Of five keys the stable sort, greater first, puts the first greatest at the front. -/
theorem isTop_sortedFrom (key : Fin 5 → EReal) (before : Fin 5 → Fin 5 → Bool)
    (hb : ∀ k k', before k k' = decide (key k' < key k)) : IsTop key (sortedFrom before 0) := by
  obtain ⟨a, rest, hs, -, hge, hgt⟩ := head_stableSort key before hb (List.finRange 5) (by decide) (by decide)
  have e : sortedFrom before 0 = a := by
    have hs' : sortPositions 5 before = a :: rest := hs
    unfold sortedFrom
    rw [List.get_of_eq hs']
    rfl
  rw [e]
  exact ⟨fun j => hge j (List.mem_finRange j), fun j hj => hgt j (List.mem_finRange j) hj⟩

/-- There is one first greatest. -/
theorem isTop_unique {L : Fin 5 → EReal} {e f : Fin 5} (he : IsTop L e) (hf : IsTop L f) : e = f := by
  rcases lt_trichotomy e f with h | h | h
  · exact absurd (hf.2 e h) (not_lt.2 (he.1 f))
  · exact h
  · exact absurd (he.2 f h) (not_lt.2 (hf.1 e))

/-! ## The softmax of a row with one finite entry -/

/-- The row that keeps entry `e` and is negative infinity elsewhere. -/
def only (L : Fin 5 → EReal) (e j : Fin 5) : EReal := if j = e then L e else ⊥

theorem fold_only (L : Fin 5 → EReal) (e : Fin 5) : Finset.univ.fold max (⊥ : EReal) (only L e) = L e := by
  refine le_antisymm ((Finset.fold_max_le _).2 ⟨bot_le, fun i _ => ?_⟩) ?_
  · unfold only; split_ifs <;> simp
  · exact (show only L e e = L e from if_pos rfl) ▸ le_fold_max (only L e) e

/-- Less its maximum and through the exponential, such a row is one at its entry and zero elsewhere. -/
theorem exp_only (L : Fin 5 → EReal) (e : Fin 5) (r : ℝ) (hr : L e = r) (j : Fin 5) :
    Ideal.exp (only L e j - L e) = if j = e then 1 else 0 := by
  unfold only
  split_ifs
  · rw [hr, ← EReal.coe_sub, sub_self, Ideal.exp_coe, Real.exp_zero, EReal.coe_one]
  · rw [EReal.bot_sub, Ideal.exp_bot]

/-- The softmax of the row that keeps the first greatest logit is the gate, when that logit is finite. -/
theorem softmax_only (L : Fin 5 → EReal) (e : Fin 5) (he : IsTop L e) (r : ℝ) (hr : L e = r) (j : Fin 5) :
    Ideal.div (Ideal.exp (only L e j - L e)) (0 + ∑ k, Ideal.exp (only L e k - L e)) = gate L j := by
  simp only [exp_only L e r hr]
  have hs : (∑ k : Fin 5, if k = e then (1 : EReal) else 0) = 1 := by
    rw [Finset.sum_ite_eq' Finset.univ e fun _ => (1 : EReal), if_pos (Finset.mem_univ _)]
  rw [hs, zero_add]
  unfold gate Ideal.div
  rw [if_neg one_ne_zero]
  have hone : (1 : EReal)⁻¹ = 1 := by rw [← EReal.coe_one, ← EReal.coe_inv, inv_one]
  rw [hone, mul_one]
  by_cases h : j = e
  · subst h; rw [if_pos rfl, if_pos he]
  · rw [if_neg h, if_neg fun hj => h (isTop_unique hj he)]

/-! ## Finiteness -/

/-- `x` is a real number. -/
def Finite (x : EReal) : Prop := ∃ r : ℝ, x = r

theorem Finite.zero : Finite 0 := ⟨0, EReal.coe_zero.symm⟩
theorem Finite.add {x y : EReal} : Finite x → Finite y → Finite (x + y) := by
  rintro ⟨a, rfl⟩ ⟨b, rfl⟩; exact ⟨a + b, (EReal.coe_add a b).symm⟩
theorem Finite.sub {x y : EReal} : Finite x → Finite y → Finite (x - y) := by
  rintro ⟨a, rfl⟩ ⟨b, rfl⟩; exact ⟨a - b, (EReal.coe_sub a b).symm⟩
theorem Finite.mul {x y : EReal} : Finite x → Finite y → Finite (x * y) := by
  rintro ⟨a, rfl⟩ ⟨b, rfl⟩; exact ⟨a * b, (EReal.coe_mul a b).symm⟩
theorem Finite.neg {x : EReal} : Finite x → Finite (-x) := by
  rintro ⟨a, rfl⟩; exact ⟨-a, (EReal.coe_neg a).symm⟩
theorem Finite.sum {ι : Type} (s : Finset ι) (f : ι → EReal) (h : ∀ i, Finite (f i)) : Finite (∑ i ∈ s, f i) := by
  classical
  induction s using Finset.induction_on with
  | empty => exact Finite.zero
  | insert a s ha ih => rw [Finset.sum_insert ha]; exact (h a).add ih

/-- A combined weight of finite weights is finite. -/
theorem finite_tapWeight {cd ad st : Fin 9 → EReal} {hd vd : Fin 3 → EReal} (h1 : ∀ t, Finite (cd t))
    (h2 : ∀ t, Finite (ad t)) (h3 : ∀ k, Finite (hd k)) (h4 : ∀ k, Finite (vd k)) (h5 : ∀ t, Finite (st t)) (t : Fin 9) :
    Finite (tapWeight cd ad hd vd st t) := by
  have hif : Finite (if t = 4 then -∑ k, cd k else 0) := by
    split_ifs
    · exact (Finite.sum _ _ h1).neg
    · exact Finite.zero
  have hacross : Finite (acrossTap hd t) := by
    fin_cases t
    exacts [h3 0, Finite.zero, (h3 0).neg, h3 1, Finite.zero, (h3 1).neg, h3 2, Finite.zero, (h3 2).neg]
  have hdown : Finite (downTap vd t) := by
    fin_cases t
    exacts [h4 0, h4 1, h4 2, Finite.zero, Finite.zero, Finite.zero, (h4 0).neg, (h4 1).neg, (h4 2).neg]
  exact (((((h1 t).add hif).add ((h2 t).sub (h2 _))).add hacross).add hdown).add (h5 t)

/-- The convolution of a finite image by finite weights is finite. -/
theorem finite_conv {xp : Fin 226 → Fin 226 → Fin 96 → EReal} {w : Fin 9 → Fin 96 → Fin 96 → EReal} {b : Fin 96 → EReal}
    (hx : ∀ r c i, Finite (xp r c i)) (hw : ∀ t i o, Finite (w t i o)) (hb : ∀ o, Finite (b o)) (r c : Fin 224)
    (o : Fin 96) : Finite (conv xp w b r c o) :=
  (Finite.sum _ _ fun t => Finite.sum _ _ fun i => (hx _ _ _).mul (hw t i o)).add (hb o)

/-- The border is finite, and so is the image inside it when it was. -/
theorem finite_bordered {x : Fin 224 → Fin 224 → Fin 96 → EReal} (hx : ∀ r c i, Finite (x r c i)) (r c : Fin 226)
    (i : Fin 96) : Finite (bordered x r c i) := by
  unfold bordered
  split_ifs
  · exact hx _ _ _
  · exact Finite.zero

/-- The features are finite when the image and every convolution's weights and bias are. -/
theorem finite_features {x : (⟨4, ![1, 224, 224, 96]⟩ : Shape).Idx → EReal}
    {wcd : (⟨4, ![96, 96, 3, 3]⟩ : Shape).Idx → EReal} {bcd : (⟨1, ![96]⟩ : Shape).Idx → EReal}
    {whd : (⟨3, ![96, 96, 3]⟩ : Shape).Idx → EReal} {bhd : (⟨1, ![96]⟩ : Shape).Idx → EReal}
    {wvd : (⟨3, ![96, 96, 3]⟩ : Shape).Idx → EReal} {bvd : (⟨1, ![96]⟩ : Shape).Idx → EReal}
    {wad : (⟨4, ![96, 96, 3, 3]⟩ : Shape).Idx → EReal} {bad : (⟨1, ![96]⟩ : Shape).Idx → EReal}
    {wst : (⟨4, ![96, 96, 3, 3]⟩ : Shape).Idx → EReal} {bst : (⟨1, ![96]⟩ : Shape).Idx → EReal}
    (h0 : ∀ i, Finite (x i)) (h1 : ∀ i, Finite (wcd i)) (h2 : ∀ i, Finite (bcd i)) (h3 : ∀ i, Finite (whd i))
    (h4 : ∀ i, Finite (bhd i)) (h5 : ∀ i, Finite (wvd i)) (h6 : ∀ i, Finite (bvd i)) (h7 : ∀ i, Finite (wad i))
    (h8 : ∀ i, Finite (bad i)) (h9 : ∀ i, Finite (wst i)) (h10 : ∀ i, Finite (bst i)) (r c : Fin 224) (o : Fin 96) :
    Finite (features x wcd bcd whd bhd wvd bvd wad bad wst bst r c o) :=
  finite_conv (finite_bordered fun _ _ _ => h0 _)
    (fun t i o => finite_tapWeight (fun _ => h1 _) (fun _ => h7 _) (fun _ => h3 _) (fun _ => h5 _) (fun _ => h9 _) t)
    (fun o => ((((h2 _).add (h4 _)).add (h6 _)).add (h8 _)).add (h10 _)) r c o

/-- The logits are finite when the features and the router are. -/
theorem finite_logit {wr : Fin 96 → Fin 5 → EReal} {br : Fin 5 → EReal} {y : Fin 96 → EReal} (hw : ∀ c e, Finite (wr c e))
    (hb : ∀ e, Finite (br e)) (hy : ∀ c, Finite (y c)) (e : Fin 5) : Finite (logit wr br y e) :=
  (Finite.sum _ _ fun c => (hy c).mul (hw c e)).add (hb e)

end DeconvMoe.Routing
-- ==== Proof.RMoe.lean ====
/-
  The reference's mixture of experts: at each pixel its logits, experts and gates are those of Spec, so that what the
  program returns is `pixel` when the arrays the logits are computed from are finite.
-/
module

public import proofs.«01_k».proof.Proof.RConv
public import proofs.«01_k».proof.Proof.RTop

@[expose] public section

set_option maxRecDepth 16384

noncomputable section

namespace DeconvMoe.ReferenceMoe

open Idealize.ShloMosaic Cert.ReferenceIdeal Cert.ReferenceIdeal.Gen Cert.ReferenceIdeal.Read

/-- The largest of five logits' position and value, as the sort that keeps one of each row leaves them. -/
theorem topK_apply (x : Vec Ideal S50176x5 .f32) (p : Fin 50176) :
    ∃ e : Fin 5, IsTop (fun k => x (ix2 p k)) e
      ∧ (Host.topK S50176x1 1 (FloatOps.cmpfTotal (F := Ideal) (φ := .f32) .gt) x sliceFits_S50176x5_S50176x1).1 (ix2 p 0)
          = x (ix2 p e)
      ∧ (Host.topK S50176x1 1 (FloatOps.cmpfTotal (F := Ideal) (φ := .f32) .gt) x sliceFits_S50176x5_S50176x1).2 (ix2 p 0)
          = BitVec.ofNat 32 e.val := by
  have hal : ∀ (j : S50176x5.Idx) (k : Fin 5), j 0 = p → j.along 1 k = ix2 p k := by
    intro j k hj
    funext a
    fin_cases a
    · exact (Function.update_of_ne (by decide : (0 : Fin 2) ≠ 1) _ _).trans hj
    · exact Function.update_self _ _ _
  have hb : ∀ k k', (FloatOps.cmpfTotal (F := Ideal) (φ := .f32) .gt (x (ix2 p k)) (x (ix2 p k')) == 1#1)
      = decide (x (ix2 p k') < x (ix2 p k)) := fun k k' => by
    change (BitVec.ofBool (decide (x (ix2 p k') < x (ix2 p k))) == 1#1) = _
    cases decide (x (ix2 p k') < x (ix2 p k)) <;> rfl
  refine ⟨_, Routing.isTop_sortedFrom (fun k => x (ix2 p k)) _ hb, ?_, ?_⟩
  · simp only [Host.topK, Host.sort2, dif_pos (show 1 < S50176x5.rank by decide)]
    pointwise
    simp only [hal (ix2 p 0) _ rfl]
  · simp only [Host.topK, Host.sort2, dif_pos (show 1 < S50176x5.rank by decide)]
    pointwise
    simp only [hal (ix2 p 0) _ rfl]
    rfl

/-- Whether two of the five positions, as words, are equal. -/
theorem position_eq (j e : Fin 5) :
    IntOp.cmpi .eq (BitVec.ofNat 32 j.val) (BitVec.ofNat 32 e.val) = if j = e then 1#1 else 0#1 := by
  revert j e; decide

variable (x0 : Vec Ideal S1x224x224x96 .f32) (x1 : Vec Ideal S96x96x3x3 .f32) (x2 : Vec Ideal S96 .f32)
  (x3 : Vec Ideal S96x96x3 .f32) (x4 : Vec Ideal S96 .f32) (x5 : Vec Ideal S96x96x3 .f32) (x6 : Vec Ideal S96 .f32)
  (x7 : Vec Ideal S96x96x3x3 .f32) (x8 : Vec Ideal S96 .f32) (x9 : Vec Ideal S96x96x3x3 .f32) (x10 : Vec Ideal S96 .f32)
  (x11 : Vec Ideal S96x5 .f32) (x12 : Vec Ideal S5 .f32) (x13 : Vec Ideal S5x96x96 .f32) (x14 : Vec Ideal S5x96 .f32)
  (x15 : Vec Ideal S5x96x96 .f32) (x16 : Vec Ideal S5x96 .f32)

/-- The features, one row per pixel. -/
theorem rows_apply (r c : Fin 224) (o : Fin 96) :
    val_main_v142 (F := Ideal) x0 x1 x2 x3 x4 x5 x6 x7 x8 x9 x10 (ix2 ⟨r.val * 224 + c.val, by omega⟩ o)
      = features x0 x1 x2 x3 x4 x5 x6 x7 x8 x9 x10 r c o := by
  rw [← ReferenceConv.features_apply]
  pointwise [val_main_v142]

/-- The router's logits. -/
theorem logits_apply (p : Fin 50176) (e : Fin 5) :
    val_main_v146 (F := Ideal) x0 x1 x2 x3 x4 x5 x6 x7 x8 x9 x10 x11 x12 (ix2 p e)
      = logit (fun c e => x11 (ix2 c e)) (fun e => x12 (ix1 e)) (fun o => val_main_v142 (F := Ideal) x0 x1 x2 x3 x4 x5 x6 x7 x8 x9 x10 (ix2 p o)) e := by
  pointwise [val_main_v143, val_main_v144, val_main_v145, val_main_v146, logit]

/-- The experts' outputs. -/
theorem experts_apply (p : Fin 50176) (e : Fin 5) (o : Fin 96) :
    val_main_v173 (F := Ideal) x0 x1 x2 x3 x4 x5 x6 x7 x8 x9 x10 x13 x14 x15 x16 (ix3 p e o)
      = expert (fun e c d => x13 (ix3 e c d)) (fun e d => x14 (ix2 e d)) (fun e d o => x15 (ix3 e d o))
          (fun e o => x16 (ix2 e o)) (fun o => val_main_v142 (F := Ideal) x0 x1 x2 x3 x4 x5 x6 x7 x8 x9 x10 (ix2 p o)) e o := by
  pointwise [val_main_v164, val_main_v165, val_main_v166, val_main_v167, val_main_call2_cst, val_main_call2_v0, val_main_v168, val_main_v169, val_main_v170, val_main_v171, val_main_v172, val_main_v173, expert, hidden]
  exact congrArg (· + x16 (ix2 e o)) (Finset.sum_congr rfl fun d _ => mul_comm _ _)

/-- The logits with every entry but the first greatest at negative infinity. -/
theorem masked_apply (p : Fin 50176) : ∃ e : Fin 5, IsTop (fun k => val_main_v146 (F := Ideal) x0 x1 x2 x3 x4 x5 x6 x7 x8 x9 x10 x11 x12 (ix2 p k)) e
    ∧ ∀ j, val_main_v152 (F := Ideal) x0 x1 x2 x3 x4 x5 x6 x7 x8 x9 x10 x11 x12 (ix2 p j) = Routing.only (fun k => val_main_v146 (F := Ideal) x0 x1 x2 x3 x4 x5 x6 x7 x8 x9 x10 x11 x12 (ix2 p k)) e j := by
  obtain ⟨e, he, h1, h2⟩ := topK_apply (val_main_v146 (F := Ideal) x0 x1 x2 x3 x4 x5 x6 x7 x8 x9 x10 x11 x12) p
  refine ⟨e, he, fun j => ?_⟩
  pointwise [val_main_v147, val_main_v148, val_main_v149, val_main_v150, val_main_v151, val_main_cst_2, val_main_call1_v0, val_main_call1_v1, val_main_call1_v2, val_main_v152, val_main_values, val_main_indices]
  rw [h1, h2, position_eq]
  unfold Routing.only
  by_cases hj : j = e
  · rw [if_pos hj, if_pos hj]; rfl
  · rw [if_neg hj, if_neg hj]; exact ofBits_negInf

/-- The gates, where the logits are finite. -/
theorem gates_apply (p : Fin 50176)
    (h : ∀ k, Routing.Finite (val_main_v146 (F := Ideal) x0 x1 x2 x3 x4 x5 x6 x7 x8 x9 x10 x11 x12 (ix2 p k))) (e : Fin 5) :
    val_main_v163 (F := Ideal) x0 x1 x2 x3 x4 x5 x6 x7 x8 x9 x10 x11 x12 (ix2 p e) = gate (fun k => val_main_v146 (F := Ideal) x0 x1 x2 x3 x4 x5 x6 x7 x8 x9 x10 x11 x12 (ix2 p k)) e := by
  pointwise [val_main_cst_3, val_main_v153, val_main_cst_4, val_main_v154, val_main_v155, val_main_v156, val_main_v157, val_main_v158, val_main_v159, val_main_cst_5, val_main_v160, val_main_v161, val_main_v162, val_main_v163]
  obtain ⟨t, ht, hm⟩ := masked_apply x0 x1 x2 x3 x4 x5 x6 x7 x8 x9 x10 x11 x12 p
  obtain ⟨r, hr⟩ := h t
  simp only [hm, ofBits_negInf, Routing.fold_only, bot_le, max_eq_right]
  rw [← Routing.softmax_only _ t ht r hr e, zero_add]

/-- The gated sum and the rectifier. -/
theorem result_apply (r c : Fin 224) (o : Fin 96) :
    val_main_v183 (F := Ideal) x0 x1 x2 x3 x4 x5 x6 x7 x8 x9 x10 x11 x12 x13 x14 x15 x16 (ix4 0 r c o)
      = leaky (∑ e, val_main_v163 (F := Ideal) x0 x1 x2 x3 x4 x5 x6 x7 x8 x9 x10 x11 x12 (ix2 ⟨r.val * 224 + c.val, by omega⟩ e)
          * val_main_v173 (F := Ideal) x0 x1 x2 x3 x4 x5 x6 x7 x8 x9 x10 x13 x14 x15 x16 (ix3 ⟨r.val * 224 + c.val, by omega⟩ e o)) := by
  pointwise [val_main_v174, val_main_v175, val_main_v176, val_main_cst_6, val_main_v177, val_main_v178, val_main_cst_7, val_main_v179, val_main_v180, val_main_cst_8, val_main_v181, val_main_v182, val_main_v183, leaky]

/-- The reference's result at a pixel, where the image, the convolutions' weights and biases, and the router are finite. -/
theorem pixel_apply (h0 : ∀ i, Routing.Finite (x0 i))
    (h1 : ∀ i, Routing.Finite (x1 i))
    (h2 : ∀ i, Routing.Finite (x2 i))
    (h3 : ∀ i, Routing.Finite (x3 i))
    (h4 : ∀ i, Routing.Finite (x4 i))
    (h5 : ∀ i, Routing.Finite (x5 i))
    (h6 : ∀ i, Routing.Finite (x6 i))
    (h7 : ∀ i, Routing.Finite (x7 i))
    (h8 : ∀ i, Routing.Finite (x8 i))
    (h9 : ∀ i, Routing.Finite (x9 i))
    (h10 : ∀ i, Routing.Finite (x10 i))
    (h11 : ∀ i, Routing.Finite (x11 i))
    (h12 : ∀ i, Routing.Finite (x12 i))
    (r c : Fin 224) (o : Fin 96) :
    val_main_v183 (F := Ideal) x0 x1 x2 x3 x4 x5 x6 x7 x8 x9 x10 x11 x12 x13 x14 x15 x16 (ix4 0 r c o)
      = pixel x0 x1 x2 x3 x4 x5 x6 x7 x8 x9 x10 x11 x12 x13 x14 x15 x16 r c o := by
  have hrow : (fun o => val_main_v142 (F := Ideal) x0 x1 x2 x3 x4 x5 x6 x7 x8 x9 x10 (ix2 ⟨r.val * 224 + c.val, by omega⟩ o))
      = features x0 x1 x2 x3 x4 x5 x6 x7 x8 x9 x10 r c := funext fun o => rows_apply x0 x1 x2 x3 x4 x5 x6 x7 x8 x9 x10 r c o
  have hlog : ∀ k, val_main_v146 (F := Ideal) x0 x1 x2 x3 x4 x5 x6 x7 x8 x9 x10 x11 x12 (ix2 ⟨r.val * 224 + c.val, by omega⟩ k)
      = logit (fun c e => x11 (ix2 c e)) (fun e => x12 (ix1 e)) (features x0 x1 x2 x3 x4 x5 x6 x7 x8 x9 x10 r c) k := fun k =>
    (logits_apply x0 x1 x2 x3 x4 x5 x6 x7 x8 x9 x10 x11 x12 _ k).trans (by rw [hrow])
  rw [result_apply]
  unfold pixel moe
  refine congrArg leaky (Finset.sum_congr rfl fun e _ => congrArg₂ (fun p q => p * q) ?_ ?_)
  · rw [gates_apply x0 x1 x2 x3 x4 x5 x6 x7 x8 x9 x10 x11 x12 _ (fun k => by
      rw [hlog k]
      exact Routing.finite_logit (fun _ _ => h11 _) (fun _ => h12 _)
        (Routing.finite_features h0 h1 h2 h3 h4 h5 h6 h7 h8 h9 h10 r c) k) e]
    exact congrArg (gate · e) (funext hlog)
  · exact (experts_apply x0 x1 x2 x3 x4 x5 x6 x7 x8 x9 x10 x13 x14 x15 x16 _ e o).trans (by rw [hrow])

end DeconvMoe.ReferenceMoe
-- ==== Proof.Pre.lean ====
/-
  What the precondition gives: every element of the arrays it names is a real number.
-/
module

public import proofs.«01_k».proof.Defs
public import proofs.«01_k».proof.Proof.RTop

@[expose] public section

set_option maxRecDepth 16384

noncomputable section

namespace DeconvMoe.Precondition

open Idealize.ShloMosaic

/-- The precondition's shape facts: a scalar broadcasts to each of its arrays. -/
instance facts : Cert.Pre_routing_finite.Facts where
  bcast_S_S1x224x224x96 := by decide
  bcast_S_S96x96x3x3 := by decide
  bcast_S_S96 := by decide
  bcast_S_S96x96x3 := by decide
  bcast_S_S96x5 := by decide
  bcast_S_S5 := by decide

/-- An array whose magnitudes all compare below infinity holds real numbers only. -/
theorem finite_of_lt {s : Shape} (x : FVec Ideal s .f32) (h : Cert.Pre_routing_finite.S_.BroadcastsInDim s ![])
    (hx : cmpf .olt (Host.absf x) (broadcastInDim s ![] h (constant Cert.Pre_routing_finite.S_ .f32 0x7F800000#32)) = fun _ => 1#1)
    (i : s.Idx) : Routing.Finite (x i) := by
  have e := congrFun hx i
  change BitVec.ofBool (decide (max (x i : EReal) (-(x i : EReal)) < Ideal.ofBits .f32 0x7F800000#32)) = 1#1 at e
  rw [ofBits_inf] at e
  have hlt : max (x i : EReal) (-(x i : EReal)) < ⊤ := by
    by_contra hn
    rw [decide_eq_false hn] at e
    exact absurd e (by decide)
  obtain ⟨h1, h2⟩ := max_lt_iff.1 hlt
  refine ⟨(x i : EReal).toReal, (EReal.coe_toReal h1.ne fun hb => ?_).symm⟩
  rw [hb, EReal.neg_bot] at h2
  exact absurd h2 (lt_irrefl _)

/-- Under the precondition the image, the convolutions' weights and biases, and the router hold real numbers only. -/
theorem finite_args (m : (ℓ : Loc Cert.KernelIdeal.nD Cert.KernelIdeal.τ Cert.KernelIdeal.sig) → Buf (Elt Ideal) ℓ)
    (hm : Cert.Pre_KernelIdeal_routing_finite m) (c : Dev Cert.KernelIdeal.nD) :
    (∀ i, Routing.Finite (m ((c.tc : Thread Cert.KernelIdeal.nD Cert.KernelIdeal.τ).loc Cert.KernelIdeal.main_arg0) i))
    ∧ (∀ i, Routing.Finite (m ((c.tc : Thread Cert.KernelIdeal.nD Cert.KernelIdeal.τ).loc Cert.KernelIdeal.main_arg1) i))
    ∧ (∀ i, Routing.Finite (m ((c.tc : Thread Cert.KernelIdeal.nD Cert.KernelIdeal.τ).loc Cert.KernelIdeal.main_arg2) i))
    ∧ (∀ i, Routing.Finite (m ((c.tc : Thread Cert.KernelIdeal.nD Cert.KernelIdeal.τ).loc Cert.KernelIdeal.main_arg3) i))
    ∧ (∀ i, Routing.Finite (m ((c.tc : Thread Cert.KernelIdeal.nD Cert.KernelIdeal.τ).loc Cert.KernelIdeal.main_arg4) i))
    ∧ (∀ i, Routing.Finite (m ((c.tc : Thread Cert.KernelIdeal.nD Cert.KernelIdeal.τ).loc Cert.KernelIdeal.main_arg5) i))
    ∧ (∀ i, Routing.Finite (m ((c.tc : Thread Cert.KernelIdeal.nD Cert.KernelIdeal.τ).loc Cert.KernelIdeal.main_arg6) i))
    ∧ (∀ i, Routing.Finite (m ((c.tc : Thread Cert.KernelIdeal.nD Cert.KernelIdeal.τ).loc Cert.KernelIdeal.main_arg7) i))
    ∧ (∀ i, Routing.Finite (m ((c.tc : Thread Cert.KernelIdeal.nD Cert.KernelIdeal.τ).loc Cert.KernelIdeal.main_arg8) i))
    ∧ (∀ i, Routing.Finite (m ((c.tc : Thread Cert.KernelIdeal.nD Cert.KernelIdeal.τ).loc Cert.KernelIdeal.main_arg9) i))
    ∧ (∀ i, Routing.Finite (m ((c.tc : Thread Cert.KernelIdeal.nD Cert.KernelIdeal.τ).loc Cert.KernelIdeal.main_arg10) i))
    ∧ (∀ i, Routing.Finite (m ((c.tc : Thread Cert.KernelIdeal.nD Cert.KernelIdeal.τ).loc Cert.KernelIdeal.main_arg11) i))
    ∧ (∀ i, Routing.Finite (m ((c.tc : Thread Cert.KernelIdeal.nD Cert.KernelIdeal.τ).loc Cert.KernelIdeal.main_arg12) i)) :=
  ⟨finite_of_lt _ _ ((hm c).1),
    finite_of_lt _ _ ((hm c).2.1),
    finite_of_lt _ _ ((hm c).2.2.1),
    finite_of_lt _ _ ((hm c).2.2.2.1),
    finite_of_lt _ _ ((hm c).2.2.2.2.1),
    finite_of_lt _ _ ((hm c).2.2.2.2.2.1),
    finite_of_lt _ _ ((hm c).2.2.2.2.2.2.1),
    finite_of_lt _ _ ((hm c).2.2.2.2.2.2.2.1),
    finite_of_lt _ _ ((hm c).2.2.2.2.2.2.2.2.1),
    finite_of_lt _ _ ((hm c).2.2.2.2.2.2.2.2.2.1),
    finite_of_lt _ _ ((hm c).2.2.2.2.2.2.2.2.2.2.1),
    finite_of_lt _ _ ((hm c).2.2.2.2.2.2.2.2.2.2.2.1),
    finite_of_lt _ _ ((hm c).2.2.2.2.2.2.2.2.2.2.2.2)⟩

end DeconvMoe.Precondition
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KValue
public import proofs.«01_k».proof.Proof.RMoe
public import proofs.«01_k».proof.Proof.Pre
public import Idealize.ShloMosaic.Adequacy
public import Idealize.ShloMosaic.Init

@[expose] public section

set_option maxRecDepth 16384

noncomputable section

namespace Cert.Proof

open Idealize.ShloMosaic Idealize.SL.Sem

/-- The reference's frame: no operation writes an argument, and the program declares no semaphore. -/
theorem frame_reference : Cert.quiescent_ReferenceIdeal := fun m ρ _ =>
  (θ_run ReferenceIdeal.defs _ _).mono
    (fun r h => ⟨fun c => (h c).2, sem_eq_zero_of_no_sems (by decide) r.2⟩) (ReferenceIdeal.Value.run (F := Ideal) m ρ)

/-- What the reference leaves in its result is the kernel's output, on memories that agree on the arguments. -/
theorem reference_result (m : (ℓ : Loc KernelIdeal.nD KernelIdeal.τ KernelIdeal.sig) → Buf (Elt Ideal) ℓ)
    (hm : Pre_KernelIdeal_routing_finite m) (c : Dev KernelIdeal.nD) :
    ReferenceIdeal.Read.val_main_v183 (F := Ideal) (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) (m ((c.tc : Thread KernelIdeal.nD KernelIdeal.τ).loc KernelIdeal.main_arg7)) (m ((c.tc : Thread KernelIdeal.nD KernelIdeal.τ).loc KernelIdeal.main_arg8)) (m ((c.tc : Thread KernelIdeal.nD KernelIdeal.τ).loc KernelIdeal.main_arg9)) (m ((c.tc : Thread KernelIdeal.nD KernelIdeal.τ).loc KernelIdeal.main_arg10)) (m ((c.tc : Thread KernelIdeal.nD KernelIdeal.τ).loc KernelIdeal.main_arg11)) (m ((c.tc : Thread KernelIdeal.nD KernelIdeal.τ).loc KernelIdeal.main_arg12)) (m ((c.tc : Thread KernelIdeal.nD KernelIdeal.τ).loc KernelIdeal.main_arg13)) (m ((c.tc : Thread KernelIdeal.nD KernelIdeal.τ).loc KernelIdeal.main_arg14)) (m ((c.tc : Thread KernelIdeal.nD KernelIdeal.τ).loc KernelIdeal.main_arg15)) (m ((c.tc : Thread KernelIdeal.nD KernelIdeal.τ).loc KernelIdeal.main_arg16))
      = DeconvMoe.KernelValue.output m c := by
  obtain ⟨h0, h1, h2, h3, h4, h5, h6, h7, h8, h9, h10, h11, h12⟩ := DeconvMoe.Precondition.finite_args m hm c
  funext j
  obtain ⟨b, r, cc, o, rfl⟩ : ∃ (b : Fin 1) (r cc : Fin 224) (o : Fin 96), j = ix4 b r cc o := ⟨_, _, _, _, (ix4_eta j).symm⟩
  obtain rfl : b = 0 := Subsingleton.elim _ _
  exact DeconvMoe.ReferenceMoe.pixel_apply _ _ _ _ _ _ _ _ _ _ _ _ _ _ _ _ _ h0 h1 h2 h3 h4 h5 h6 h7 h8 h9 h10 h11 h12 r cc o

/-- Both ideal programs leave the same array. -/
theorem algebraic : algebraic_KernelIdeal_ReferenceIdeal_pre_routing_finite := by
  intro m ρ m' ρ' hm hagree
  refine ⟨DeconvMoe.KernelValue.output m, DeconvMoe.KernelValue.run m ρ, ?_⟩
  refine (θ_run ReferenceIdeal.defs _ _).mono (fun _ h c => ⟨(h c).1.trans ?_, (h c).2⟩)
    (ReferenceIdeal.Value.run (F := Ideal) m' ρ')
  obtain ⟨a0, a1, a2, a3, a4, a5, a6, a7, a8, a9, a10, a11, a12, a13, a14, a15, a16⟩ := hagree c
  rw [ReferenceIdeal.Read.val_main_v183_eq]
  change ReferenceIdeal.Read.val_main_v183 (F := Ideal) (m' ((c.tc : Thread ReferenceIdeal.nD ReferenceIdeal.τ).loc ReferenceIdeal.main_arg0)) (m' ((c.tc : Thread ReferenceIdeal.nD ReferenceIdeal.τ).loc ReferenceIdeal.main_arg1)) (m' ((c.tc : Thread ReferenceIdeal.nD ReferenceIdeal.τ).loc ReferenceIdeal.main_arg2)) (m' ((c.tc : Thread ReferenceIdeal.nD ReferenceIdeal.τ).loc ReferenceIdeal.main_arg3)) (m' ((c.tc : Thread ReferenceIdeal.nD ReferenceIdeal.τ).loc ReferenceIdeal.main_arg4)) (m' ((c.tc : Thread ReferenceIdeal.nD ReferenceIdeal.τ).loc ReferenceIdeal.main_arg5)) (m' ((c.tc : Thread ReferenceIdeal.nD ReferenceIdeal.τ).loc ReferenceIdeal.main_arg6)) (m' ((c.tc : Thread ReferenceIdeal.nD ReferenceIdeal.τ).loc ReferenceIdeal.main_arg7)) (m' ((c.tc : Thread ReferenceIdeal.nD ReferenceIdeal.τ).loc ReferenceIdeal.main_arg8)) (m' ((c.tc : Thread ReferenceIdeal.nD ReferenceIdeal.τ).loc ReferenceIdeal.main_arg9)) (m' ((c.tc : Thread ReferenceIdeal.nD ReferenceIdeal.τ).loc ReferenceIdeal.main_arg10)) (m' ((c.tc : Thread ReferenceIdeal.nD ReferenceIdeal.τ).loc ReferenceIdeal.main_arg11)) (m' ((c.tc : Thread ReferenceIdeal.nD ReferenceIdeal.τ).loc ReferenceIdeal.main_arg12)) (m' ((c.tc : Thread ReferenceIdeal.nD ReferenceIdeal.τ).loc ReferenceIdeal.main_arg13)) (m' ((c.tc : Thread ReferenceIdeal.nD ReferenceIdeal.τ).loc ReferenceIdeal.main_arg14)) (m' ((c.tc : Thread ReferenceIdeal.nD ReferenceIdeal.τ).loc ReferenceIdeal.main_arg15)) (m' ((c.tc : Thread ReferenceIdeal.nD ReferenceIdeal.τ).loc ReferenceIdeal.main_arg16)) = _
  rw [a0, a1, a2, a3, a4, a5, a6, a7, a8, a9, a10, a11, a12, a13, a14, a15, a16]
  exact reference_result m hm c

theorem claim : Cert.Claim := ⟨Cert.Kernel.Gen.facts, Cert.KernelIdeal.Gen.facts, Cert.ReferenceIdeal.Gen.facts,
  DeconvMoe.Precondition.facts, fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial, algebraic⟩

end Cert.Proof

end
